-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S_ : Shape := ⟨0, ![]⟩
abbrev S512x1024 : Shape := ⟨2, ![512, 1024]⟩
abbrev S3x2x64x1024 : Shape := ⟨4, ![3, 2, 64, 1024]⟩
abbrev S12 : Shape := ⟨1, ![12]⟩
abbrev S20 : Shape := ⟨1, ![20]⟩
abbrev S8 : Shape := ⟨1, ![8]⟩
abbrev S1 : Shape := ⟨1, ![1]⟩
abbrev S1x1x64x1024 : Shape := ⟨4, ![1, 1, 64, 1024]⟩
abbrev S64x1024 : Shape := ⟨2, ![64, 1024]⟩
abbrev S128x1024 : Shape := ⟨2, ![128, 1024]⟩

abbrev nBuf : Space → Nat
  | .hbm => 28
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S512x1024, .bf16⟩
  | .hbm, ⟨27, _⟩ => ⟨S4096x1024, .bf16⟩
  | .local _ .vmem, ⟨0, _⟩ => ⟨S512x1024, .bf16⟩
  | .local _ .vmem, ⟨1, _⟩ => ⟨S4096x1024, .bf16⟩
  | .local _ .vmem, ⟨2, _⟩ => ⟨S3x2x64x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_1 : Ref sig .tc := ⟨.hbm, 7, rfl⟩
abbrev main_c_2 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_3 : Ref sig .tc := ⟨.hbm, 13, rfl⟩
abbrev main_v9 : Ref sig .tc := ⟨.hbm, 14, rfl⟩
abbrev main_c_4 : Ref sig .tc := ⟨.hbm, 15, rfl⟩
abbrev main_v10 : Ref sig .tc := ⟨.hbm, 16, rfl⟩
abbrev main_v11 : Ref sig .tc := ⟨.hbm, 17, rfl⟩
abbrev main_c_5 : Ref sig .tc := ⟨.hbm, 18, rfl⟩
abbrev main_v12 : Ref sig .tc := ⟨.hbm, 19, rfl⟩
abbrev main_c_6 : Ref sig .tc := ⟨.hbm, 20, rfl⟩
abbrev main_v13 : Ref sig .tc := ⟨.hbm, 21, rfl⟩
abbrev main_c_7 : Ref sig .tc := ⟨.hbm, 22, rfl⟩
abbrev main_v14 : Ref sig .tc := ⟨.hbm, 23, rfl⟩
abbrev main_v15 : Ref sig .tc := ⟨.hbm, 24, rfl⟩
abbrev main_c_8 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v99 : BitVec 32 := Scalar.muli v2 c16_i32_50
  let v100 : BitVec 32 := Scalar.addi c0_i32_51 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v101 : BitVec 32 := Scalar.muli v5 c4_i32_52
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_53 : BitVec 32 := 1#32
  let v103 : BitVec 32 := Scalar.muli v31 c1_i32_53
  let v104 : BitVec 32 := Scalar.addi v102 v103
  v104.toNat
def k0_dev2 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v105 : BitVec 32 := Scalar.muli v2 c16_i32_55
  let v106 : BitVec 32 := Scalar.addi c0_i32_56 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v107 : BitVec 32 := Scalar.muli v5 c4_i32_57
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_58 : BitVec 32 := 1#32
  let v109 : BitVec 32 := Scalar.muli v19 c1_i32_58
  let v110 : BitVec 32 := Scalar.addi v108 v109
  v110.toNat
def k0_dev3 (d0 : Dev nD) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c16_i32_60 : BitVec 32 := 16#32
  let v111 : BitVec 32 := Scalar.muli v62 c16_i32_60
  let v112 : BitVec 32 := Scalar.addi c0_i32_61 v111
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c4_i32_62 : BitVec 32 := 4#32
  let v113 : BitVec 32 := Scalar.muli v65 c4_i32_62
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v115 : BitVec 32 := Scalar.muli v8 c1_i32_63
  let v116 : BitVec 32 := Scalar.addi v114 v115
  v116.toNat
def k0_dev4 (d0 : Dev nD) : Nat :=
  let c0_i32_66 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let c16_i32_65 : BitVec 32 := 16#32
  let v117 : BitVec 32 := Scalar.muli v94 c16_i32_65
  let v118 : BitVec 32 := Scalar.addi c0_i32_66 v117
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let c4_i32_67 : BitVec 32 := 4#32
  let v119 : BitVec 32 := Scalar.muli v97 c4_i32_67
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v121 : BitVec 32 := Scalar.muli v8 c1_i32_68
  let v122 : BitVec 32 := Scalar.addi v120 v121
  v122.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c512_i32 : BitVec 32 := 512#32
  let v123 : BitVec 32 := Scalar.muli v34 c512_i32
  let v126 : Index := Scalar.indexCast v123
  let c0_71 : Index := 0#32
  ![v126.toNat, 0]
def k0_off2 (d0 : Dev nD) (c0_i32_72 : BitVec 32) (c0_i32_79 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c512_i32 : BitVec 32 := 512#32
  let v123 : BitVec 32 := Scalar.muli v34 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v128 : BitVec 32 := Scalar.subi v8 c0_i32_72
  let c4_i32_73 : BitVec 32 := 4#32
  let c0_i32_74 : BitVec 32 := 0#32
  let v129 : BitVec 1 := Scalar.cmpi .eq c4_i32_73 c0_i32_74
  let c1_i32_75 : BitVec 32 := 1#32
  let v130 : BitVec 32 := Scalar.select v129 c1_i32_75 c4_i32_73
  let v131 : BitVec 32 := Scalar.remsi v128 v130
  let c0_i32_77 : BitVec 32 := 0#32
  let v133 : BitVec 1 := Scalar.cmpi .slt v131 c0_i32_77
  let c0_i32_78 : BitVec 32 := 0#32
  let v134 : BitVec 1 := Scalar.cmpi .slt v130 c0_i32_78
  let v135 : BitVec 1 := Scalar.xori v133 v134
  let c0_i32_76 : BitVec 32 := 0#32
  let v132 : BitVec 1 := Scalar.cmpi .ne v131 c0_i32_76
  let v136 : BitVec 1 := Scalar.andi v135 v132
  let v137 : BitVec 32 := Scalar.addi v131 v130
  let v138 : BitVec 32 := Scalar.select v136 v137 v131
  let c128_i32 : BitVec 32 := 128#32
  let v139 : BitVec 32 := Scalar.muli v138 c128_i32
  let v140 : BitVec 32 := Scalar.addi v123 v139
  let v141 : BitVec 32 := Scalar.addi v140 c0_i32_79
  let c0_i32_90 : BitVec 32 := 0#32
  ![v141.toNat, 0]
def k0_dev5 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v142 : BitVec 32 := Scalar.muli v2 c16_i32_84
  let v143 : BitVec 32 := Scalar.addi c0_i32_85 v142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v144 : BitVec 32 := Scalar.muli v5 c4_i32_86
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_87 : BitVec 32 := 1#32
  let v146 : BitVec 32 := Scalar.muli v19 c1_i32_87
  let v147 : BitVec 32 := Scalar.addi v145 v146
  v147.toNat
def k0_dev6 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v169 : BitVec 32 := Scalar.muli v2 c16_i32_103
  let v170 : BitVec 32 := Scalar.addi c0_i32_104 v169
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_105 : BitVec 32 := 4#32
  let v171 : BitVec 32 := Scalar.muli v5 c4_i32_105
  let v172 : BitVec 32 := Scalar.addi v170 v171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_106 : BitVec 32 := 1#32
  let v173 : BitVec 32 := Scalar.muli v19 c1_i32_106
  let v174 : BitVec 32 := Scalar.addi v172 v173
  v174.toNat
def k0_off3 (d0 : Dev nD) (c0_i32_110 : BitVec 32) (c0_i32_139 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c512_i32 : BitVec 32 := 512#32
  let v123 : BitVec 32 := Scalar.muli v34 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v182 : BitVec 32 := Scalar.subi v8 c0_i32_110
  let c1_i32_111 : BitVec 32 := 1#32
  let v183 : BitVec 32 := Scalar.subi v182 c1_i32_111
  let c4_i32_112 : BitVec 32 := 4#32
  let c0_i32_113 : BitVec 32 := 0#32
  let v184 : BitVec 1 := Scalar.cmpi .eq c4_i32_112 c0_i32_113
  let c1_i32_114 : BitVec 32 := 1#32
  let v185 : BitVec 32 := Scalar.select v184 c1_i32_114 c4_i32_112
  let v186 : BitVec 32 := Scalar.remsi v183 v185
  let c0_i32_116 : BitVec 32 := 0#32
  let v188 : BitVec 1 := Scalar.cmpi .slt v186 c0_i32_116
  let c0_i32_117 : BitVec 32 := 0#32
  let v189 : BitVec 1 := Scalar.cmpi .slt v185 c0_i32_117
  let v190 : BitVec 1 := Scalar.xori v188 v189
  let c0_i32_115 : BitVec 32 := 0#32
  let v187 : BitVec 1 := Scalar.cmpi .ne v186 c0_i32_115
  let v191 : BitVec 1 := Scalar.andi v190 v187
  let v192 : BitVec 32 := Scalar.addi v186 v185
  let v193 : BitVec 32 := Scalar.select v191 v192 v186
  let c128_i32_118 : BitVec 32 := 128#32
  let v194 : BitVec 32 := Scalar.muli v193 c128_i32_118
  let v195 : BitVec 32 := Scalar.addi v123 v194
  let v221 : BitVec 32 := Scalar.addi v195 c0_i32_139
  let v222 : Index := Scalar.indexCast v221
  let c0_140 : Index := 0#32
  ![v222.toNat, 0]
def k0_dev7 (d0 : Dev nD) : Nat :=
  let c0_i32_160 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_159 : BitVec 32 := 16#32
  let v244 : BitVec 32 := Scalar.muli v2 c16_i32_159
  let v245 : BitVec 32 := Scalar.addi c0_i32_160 v244
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_161 : BitVec 32 := 4#32
  let v246 : BitVec 32 := Scalar.muli v5 c4_i32_161
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_162 : BitVec 32 := 1#32
  let v248 : BitVec 32 := Scalar.muli v19 c1_i32_162
  let v249 : BitVec 32 := Scalar.addi v247 v248
  v249.toNat
def k0_dev8 (d0 : Dev nD) : Nat :=
  let c0_i32_205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_204 : BitVec 32 := 16#32
  let v305 : BitVec 32 := Scalar.muli v2 c16_i32_204
  let v306 : BitVec 32 := Scalar.addi c0_i32_205 v305
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_206 : BitVec 32 := 4#32
  let v307 : BitVec 32 := Scalar.muli v5 c4_i32_206
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_207 : BitVec 32 := 1#32
  let v309 : BitVec 32 := Scalar.muli v19 c1_i32_207
  let v310 : BitVec 32 := Scalar.addi v308 v309
  v310.toNat
def k0_dev9 (d0 : Dev nD) : Nat :=
  let c0_i32_261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_260 : BitVec 32 := 16#32
  let v380 : BitVec 32 := Scalar.muli v2 c16_i32_260
  let v381 : BitVec 32 := Scalar.addi c0_i32_261 v380
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_262 : BitVec 32 := 4#32
  let v382 : BitVec 32 := Scalar.muli v5 c4_i32_262
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_263 : BitVec 32 := 1#32
  let v384 : BitVec 32 := Scalar.muli v19 c1_i32_263
  let v385 : BitVec 32 := Scalar.addi v383 v384
  v385.toNat
def k0_dev10 (d0 : Dev nD) : Nat :=
  let c0_i32_307 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_306 : BitVec 32 := 16#32
  let v441 : BitVec 32 := Scalar.muli v2 c16_i32_306
  let v442 : BitVec 32 := Scalar.addi c0_i32_307 v441
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_308 : BitVec 32 := 4#32
  let v443 : BitVec 32 := Scalar.muli v5 c4_i32_308
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_309 : BitVec 32 := 1#32
  let v445 : BitVec 32 := Scalar.muli v19 c1_i32_309
  let v446 : BitVec 32 := Scalar.addi v444 v445
  v446.toNat
def k0_off4 (d0 : Dev nD) (c0_i32_384 : BitVec 32) (c0_i32_399 : BitVec 32) (c0_i32_406 : BitVec 32) (c0_i32_376 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v548 : BitVec 32 := Scalar.addi v8 c1_i32_383
  let v549 : BitVec 32 := Scalar.subi v548 c0_i32_384
  let c4_i32_385 : BitVec 32 := 4#32
  let c0_i32_386 : BitVec 32 := 0#32
  let v550 : BitVec 1 := Scalar.cmpi .eq c4_i32_385 c0_i32_386
  let c1_i32_387 : BitVec 32 := 1#32
  let v551 : BitVec 32 := Scalar.select v550 c1_i32_387 c4_i32_385
  let v552 : BitVec 32 := Scalar.remsi v549 v551
  let c0_i32_389 : BitVec 32 := 0#32
  let v554 : BitVec 1 := Scalar.cmpi .slt v552 c0_i32_389
  let c0_i32_390 : BitVec 32 := 0#32
  let v555 : BitVec 1 := Scalar.cmpi .slt v551 c0_i32_390
  let v556 : BitVec 1 := Scalar.xori v554 v555
  let c0_i32_388 : BitVec 32 := 0#32
  let v553 : BitVec 1 := Scalar.cmpi .ne v552 c0_i32_388
  let v557 : BitVec 1 := Scalar.andi v556 v553
  let v558 : BitVec 32 := Scalar.addi v552 v551
  let v559 : BitVec 32 := Scalar.select v557 v558 v552
  let c2_i32_391 : BitVec 32 := 2#32
  let v560 : BitVec 1 := Scalar.cmpi .slt v559 c2_i32_391
  let c2_i32_392 : BitVec 32 := 2#32
  let c0_i32_393 : BitVec 32 := 0#32
  let v561 : BitVec 1 := Scalar.cmpi .eq c2_i32_392 c0_i32_393
  let c1_i32_394 : BitVec 32 := 1#32
  let v562 : BitVec 32 := Scalar.select v561 c1_i32_394 c2_i32_392
  let v563 : BitVec 32 := Scalar.remsi v8 v562
  let c0_i32_396 : BitVec 32 := 0#32
  let v565 : BitVec 1 := Scalar.cmpi .slt v563 c0_i32_396
  let c0_i32_397 : BitVec 32 := 0#32
  let v566 : BitVec 1 := Scalar.cmpi .slt v562 c0_i32_397
  let v567 : BitVec 1 := Scalar.xori v565 v566
  let c0_i32_395 : BitVec 32 := 0#32
  let v564 : BitVec 1 := Scalar.cmpi .ne v563 c0_i32_395
  let v568 : BitVec 1 := Scalar.andi v567 v564
  let v569 : BitVec 32 := Scalar.addi v563 v562
  let v570 : BitVec 32 := Scalar.select v568 v569 v563
  let c1_i32_398 : BitVec 32 := 1#32
  let v571 : BitVec 1 := Scalar.cmpi .eq v570 c1_i32_398
  let v572 : BitVec 1 := Scalar.xori v560 v571
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v573 : BitVec 32 := Scalar.subi v34 c0_i32_399
  let c8_i32_400 : BitVec 32 := 8#32
  let c0_i32_401 : BitVec 32 := 0#32
  let v574 : BitVec 1 := Scalar.cmpi .eq c8_i32_400 c0_i32_401
  let c1_i32_402 : BitVec 32 := 1#32
  let v575 : BitVec 32 := Scalar.select v574 c1_i32_402 c8_i32_400
  let v576 : BitVec 32 := Scalar.remsi v573 v575
  let c0_i32_404 : BitVec 32 := 0#32
  let v578 : BitVec 1 := Scalar.cmpi .slt v576 c0_i32_404
  let c0_i32_405 : BitVec 32 := 0#32
  let v579 : BitVec 1 := Scalar.cmpi .slt v575 c0_i32_405
  let v580 : BitVec 1 := Scalar.xori v578 v579
  let c0_i32_403 : BitVec 32 := 0#32
  let v577 : BitVec 1 := Scalar.cmpi .ne v576 c0_i32_403
  let v581 : BitVec 1 := Scalar.andi v580 v577
  let v582 : BitVec 32 := Scalar.addi v576 v575
  let v583 : BitVec 32 := Scalar.select v581 v582 v576
  let v584 : BitVec 32 := Scalar.addi v34 c0_i32_406
  let c8_i32_407 : BitVec 32 := 8#32
  let c0_i32_408 : BitVec 32 := 0#32
  let v585 : BitVec 1 := Scalar.cmpi .eq c8_i32_407 c0_i32_408
  let c1_i32_409 : BitVec 32 := 1#32
  let v586 : BitVec 32 := Scalar.select v585 c1_i32_409 c8_i32_407
  let v587 : BitVec 32 := Scalar.remsi v584 v586
  let c0_i32_411 : BitVec 32 := 0#32
  let v589 : BitVec 1 := Scalar.cmpi .slt v587 c0_i32_411
  let c0_i32_412 : BitVec 32 := 0#32
  let v590 : BitVec 1 := Scalar.cmpi .slt v586 c0_i32_412
  let v591 : BitVec 1 := Scalar.xori v589 v590
  let c0_i32_410 : BitVec 32 := 0#32
  let v588 : BitVec 1 := Scalar.cmpi .ne v587 c0_i32_410
  let v592 : BitVec 1 := Scalar.andi v591 v588
  let v593 : BitVec 32 := Scalar.addi v587 v586
  let v594 : BitVec 32 := Scalar.select v592 v593 v587
  let v595 : BitVec 32 := Scalar.select v572 v583 v594
  let c512_i32_413 : BitVec 32 := 512#32
  let v598 : BitVec 32 := Scalar.muli v595 c512_i32_413
  let c1_i32_375 : BitVec 32 := 1#32
  let v536 : BitVec 32 := Scalar.addi v8 c1_i32_375
  let v537 : BitVec 32 := Scalar.subi v536 c0_i32_376
  let c4_i32_377 : BitVec 32 := 4#32
  let c0_i32_378 : BitVec 32 := 0#32
  let v538 : BitVec 1 := Scalar.cmpi .eq c4_i32_377 c0_i32_378
  let c1_i32_379 : BitVec 32 := 1#32
  let v539 : BitVec 32 := Scalar.select v538 c1_i32_379 c4_i32_377
  let v540 : BitVec 32 := Scalar.remsi v537 v539
  let c0_i32_381 : BitVec 32 := 0#32
  let v542 : BitVec 1 := Scalar.cmpi .slt v540 c0_i32_381
  let c0_i32_382 : BitVec 32 := 0#32
  let v543 : BitVec 1 := Scalar.cmpi .slt v539 c0_i32_382
  let v544 : BitVec 1 := Scalar.xori v542 v543
  let c0_i32_380 : BitVec 32 := 0#32
  let v541 : BitVec 1 := Scalar.cmpi .ne v540 c0_i32_380
  let v545 : BitVec 1 := Scalar.andi v544 v541
  let v546 : BitVec 32 := Scalar.addi v540 v539
  let v547 : BitVec 32 := Scalar.select v545 v546 v540
  let c128_i32_414 : BitVec 32 := 128#32
  let v599 : BitVec 32 := Scalar.muli v547 c128_i32_414
  let v600 : BitVec 32 := Scalar.addi v598 v599
  let c0_i32_421 : BitVec 32 := 0#32
  ![v600.toNat, 0]
def k0_off4_at (r : Fin 20) : BitVec 32 × BitVec 32 × BitVec 32 × BitVec 32 :=
  if r.val < 10 then
    if r.val < 5 then
      if r.val < 2 then
        if r.val < 1 then
          (0#32, 0#32, 0#32, 0#32)
        else
          (1#32, 0#32, 0#32, 1#32)
      else
        if r.val < 3 then
          (2#32, 0#32, 0#32, 2#32)
        else
          if r.val < 4 then
            (3#32, 0#32, 0#32, 3#32)
          else
            (0#32, 1#32, 1#32, 0#32)
    else
      if r.val < 7 then
        if r.val < 6 then
          (1#32, 1#32, 1#32, 1#32)
        else
          (2#32, 1#32, 1#32, 2#32)
      else
        if r.val < 8 then
          (3#32, 1#32, 1#32, 3#32)
        else
          if r.val < 9 then
            (0#32, 2#32, 2#32, 0#32)
          else
            (1#32, 2#32, 2#32, 1#32)
  else
    if r.val < 15 then
      if r.val < 12 then
        if r.val < 11 then
          (2#32, 2#32, 2#32, 2#32)
        else
          (3#32, 2#32, 2#32, 3#32)
      else
        if r.val < 13 then
          (0#32, 3#32, 3#32, 0#32)
        else
          if r.val < 14 then
            (1#32, 3#32, 3#32, 1#32)
          else
            (2#32, 3#32, 3#32, 2#32)
    else
      if r.val < 17 then
        if r.val < 16 then
          (3#32, 3#32, 3#32, 3#32)
        else
          (0#32, 4#32, 4#32, 0#32)
      else
        if r.val < 18 then
          (1#32, 4#32, 4#32, 1#32)
        else
          if r.val < 19 then
            (2#32, 4#32, 4#32, 2#32)
          else
            (3#32, 4#32, 4#32, 3#32)
def k0_dev11 (d0 : Dev nD) : Nat :=
  let c0_i32_418 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v548 : BitVec 32 := Scalar.addi v8 c1_i32_383
  let c0_i32_384 : BitVec 32 := 0#32
  let v549 : BitVec 32 := Scalar.subi v548 c0_i32_384
  let c4_i32_385 : BitVec 32 := 4#32
  let c0_i32_386 : BitVec 32 := 0#32
  let v550 : BitVec 1 := Scalar.cmpi .eq c4_i32_385 c0_i32_386
  let c1_i32_387 : BitVec 32 := 1#32
  let v551 : BitVec 32 := Scalar.select v550 c1_i32_387 c4_i32_385
  let v552 : BitVec 32 := Scalar.remsi v549 v551
  let c0_i32_389 : BitVec 32 := 0#32
  let v554 : BitVec 1 := Scalar.cmpi .slt v552 c0_i32_389
  let c0_i32_390 : BitVec 32 := 0#32
  let v555 : BitVec 1 := Scalar.cmpi .slt v551 c0_i32_390
  let v556 : BitVec 1 := Scalar.xori v554 v555
  let c0_i32_388 : BitVec 32 := 0#32
  let v553 : BitVec 1 := Scalar.cmpi .ne v552 c0_i32_388
  let v557 : BitVec 1 := Scalar.andi v556 v553
  let v558 : BitVec 32 := Scalar.addi v552 v551
  let v559 : BitVec 32 := Scalar.select v557 v558 v552
  let c2_i32_391 : BitVec 32 := 2#32
  let v560 : BitVec 1 := Scalar.cmpi .slt v559 c2_i32_391
  let c2_i32_392 : BitVec 32 := 2#32
  let c0_i32_393 : BitVec 32 := 0#32
  let v561 : BitVec 1 := Scalar.cmpi .eq c2_i32_392 c0_i32_393
  let c1_i32_394 : BitVec 32 := 1#32
  let v562 : BitVec 32 := Scalar.select v561 c1_i32_394 c2_i32_392
  let v563 : BitVec 32 := Scalar.remsi v8 v562
  let c0_i32_396 : BitVec 32 := 0#32
  let v565 : BitVec 1 := Scalar.cmpi .slt v563 c0_i32_396
  let c0_i32_397 : BitVec 32 := 0#32
  let v566 : BitVec 1 := Scalar.cmpi .slt v562 c0_i32_397
  let v567 : BitVec 1 := Scalar.xori v565 v566
  let c0_i32_395 : BitVec 32 := 0#32
  let v564 : BitVec 1 := Scalar.cmpi .ne v563 c0_i32_395
  let v568 : BitVec 1 := Scalar.andi v567 v564
  let v569 : BitVec 32 := Scalar.addi v563 v562
  let v570 : BitVec 32 := Scalar.select v568 v569 v563
  let c1_i32_398 : BitVec 32 := 1#32
  let v571 : BitVec 1 := Scalar.cmpi .eq v570 c1_i32_398
  let v572 : BitVec 1 := Scalar.xori v560 v571
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v596 : BitVec 32 := Scalar.select v572 v62 v94
  let c16_i32_417 : BitVec 32 := 16#32
  let v601 : BitVec 32 := Scalar.muli v596 c16_i32_417
  let v602 : BitVec 32 := Scalar.addi c0_i32_418 v601
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v597 : BitVec 32 := Scalar.select v572 v65 v97
  let c4_i32_419 : BitVec 32 := 4#32
  let v603 : BitVec 32 := Scalar.muli v597 c4_i32_419
  let v604 : BitVec 32 := Scalar.addi v602 v603
  let c1_i32_420 : BitVec 32 := 1#32
  let v605 : BitVec 32 := Scalar.muli v8 c1_i32_420
  let v606 : BitVec 32 := Scalar.addi v604 v605
  v606.toNat
def k0_off5 (d0 : Dev nD) (c0_i32_424 : BitVec 32) (c0_i32_432 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c512_i32 : BitVec 32 := 512#32
  let v123 : BitVec 32 := Scalar.muli v34 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v613 : BitVec 32 := Scalar.addi v8 c1_i32_423
  let v614 : BitVec 32 := Scalar.subi v613 c0_i32_424
  let c4_i32_425 : BitVec 32 := 4#32
  let c0_i32_426 : BitVec 32 := 0#32
  let v615 : BitVec 1 := Scalar.cmpi .eq c4_i32_425 c0_i32_426
  let c1_i32_427 : BitVec 32 := 1#32
  let v616 : BitVec 32 := Scalar.select v615 c1_i32_427 c4_i32_425
  let v617 : BitVec 32 := Scalar.remsi v614 v616
  let c0_i32_429 : BitVec 32 := 0#32
  let v619 : BitVec 1 := Scalar.cmpi .slt v617 c0_i32_429
  let c0_i32_430 : BitVec 32 := 0#32
  let v620 : BitVec 1 := Scalar.cmpi .slt v616 c0_i32_430
  let v621 : BitVec 1 := Scalar.xori v619 v620
  let c0_i32_428 : BitVec 32 := 0#32
  let v618 : BitVec 1 := Scalar.cmpi .ne v617 c0_i32_428
  let v622 : BitVec 1 := Scalar.andi v621 v618
  let v623 : BitVec 32 := Scalar.addi v617 v616
  let v624 : BitVec 32 := Scalar.select v622 v623 v617
  let c128_i32_431 : BitVec 32 := 128#32
  let v625 : BitVec 32 := Scalar.muli v624 c128_i32_431
  let v626 : BitVec 32 := Scalar.addi v123 v625
  let v627 : BitVec 32 := Scalar.addi v626 c0_i32_432
  let c0_i32_438 : BitVec 32 := 0#32
  ![v627.toNat, 0]
def k0_dev12 (d0 : Dev nD) : Nat :=
  let c0_i32_435 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_434 : BitVec 32 := 16#32
  let v628 : BitVec 32 := Scalar.muli v2 c16_i32_434
  let v629 : BitVec 32 := Scalar.addi c0_i32_435 v628
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_436 : BitVec 32 := 4#32
  let v630 : BitVec 32 := Scalar.muli v5 c4_i32_436
  let v631 : BitVec 32 := Scalar.addi v629 v630
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_437 : BitVec 32 := 1#32
  let v632 : BitVec 32 := Scalar.muli v19 c1_i32_437
  let v633 : BitVec 32 := Scalar.addi v631 v632
  v633.toNat
def k0_dev13 (d0 : Dev nD) : Nat :=
  let c0_i32_453 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_452 : BitVec 32 := 16#32
  let v655 : BitVec 32 := Scalar.muli v2 c16_i32_452
  let v656 : BitVec 32 := Scalar.addi c0_i32_453 v655
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_454 : BitVec 32 := 4#32
  let v657 : BitVec 32 := Scalar.muli v5 c4_i32_454
  let v658 : BitVec 32 := Scalar.addi v656 v657
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_455 : BitVec 32 := 1#32
  let v659 : BitVec 32 := Scalar.muli v19 c1_i32_455
  let v660 : BitVec 32 := Scalar.addi v658 v659
  v660.toNat
def k0_dev14 (d0 : Dev nD) : Nat :=
  let c0_i32_489 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_488 : BitVec 32 := 16#32
  let v707 : BitVec 32 := Scalar.muli v2 c16_i32_488
  let v708 : BitVec 32 := Scalar.addi c0_i32_489 v707
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_490 : BitVec 32 := 4#32
  let v709 : BitVec 32 := Scalar.muli v5 c4_i32_490
  let v710 : BitVec 32 := Scalar.addi v708 v709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_491 : BitVec 32 := 1#32
  let v711 : BitVec 32 := Scalar.muli v19 c1_i32_491
  let v712 : BitVec 32 := Scalar.addi v710 v711
  v712.toNat
def k0_dev15 (d0 : Dev nD) : Nat :=
  let c0_i32_524 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_523 : BitVec 32 := 16#32
  let v759 : BitVec 32 := Scalar.muli v2 c16_i32_523
  let v760 : BitVec 32 := Scalar.addi c0_i32_524 v759
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_525 : BitVec 32 := 4#32
  let v761 : BitVec 32 := Scalar.muli v5 c4_i32_525
  let v762 : BitVec 32 := Scalar.addi v760 v761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_526 : BitVec 32 := 1#32
  let v763 : BitVec 32 := Scalar.muli v19 c1_i32_526
  let v764 : BitVec 32 := Scalar.addi v762 v763
  v764.toNat
def k0_dev16 (d0 : Dev nD) : Nat :=
  let c0_i32_572 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_537 : BitVec 32 := 1#32
  let v783 : BitVec 32 := Scalar.addi v8 c1_i32_537
  let c1_i32_538 : BitVec 32 := 1#32
  let v784 : BitVec 32 := Scalar.subi v783 c1_i32_538
  let c4_i32_539 : BitVec 32 := 4#32
  let c0_i32_540 : BitVec 32 := 0#32
  let v785 : BitVec 1 := Scalar.cmpi .eq c4_i32_539 c0_i32_540
  let c1_i32_541 : BitVec 32 := 1#32
  let v786 : BitVec 32 := Scalar.select v785 c1_i32_541 c4_i32_539
  let v787 : BitVec 32 := Scalar.remsi v784 v786
  let c0_i32_543 : BitVec 32 := 0#32
  let v789 : BitVec 1 := Scalar.cmpi .slt v787 c0_i32_543
  let c0_i32_544 : BitVec 32 := 0#32
  let v790 : BitVec 1 := Scalar.cmpi .slt v786 c0_i32_544
  let v791 : BitVec 1 := Scalar.xori v789 v790
  let c0_i32_542 : BitVec 32 := 0#32
  let v788 : BitVec 1 := Scalar.cmpi .ne v787 c0_i32_542
  let v792 : BitVec 1 := Scalar.andi v791 v788
  let v793 : BitVec 32 := Scalar.addi v787 v786
  let v794 : BitVec 32 := Scalar.select v792 v793 v787
  let c2_i32_545 : BitVec 32 := 2#32
  let v795 : BitVec 1 := Scalar.cmpi .slt v794 c2_i32_545
  let c2_i32_546 : BitVec 32 := 2#32
  let c0_i32_547 : BitVec 32 := 0#32
  let v796 : BitVec 1 := Scalar.cmpi .eq c2_i32_546 c0_i32_547
  let c1_i32_548 : BitVec 32 := 1#32
  let v797 : BitVec 32 := Scalar.select v796 c1_i32_548 c2_i32_546
  let v798 : BitVec 32 := Scalar.remsi v8 v797
  let c0_i32_550 : BitVec 32 := 0#32
  let v800 : BitVec 1 := Scalar.cmpi .slt v798 c0_i32_550
  let c0_i32_551 : BitVec 32 := 0#32
  let v801 : BitVec 1 := Scalar.cmpi .slt v797 c0_i32_551
  let v802 : BitVec 1 := Scalar.xori v800 v801
  let c0_i32_549 : BitVec 32 := 0#32
  let v799 : BitVec 1 := Scalar.cmpi .ne v798 c0_i32_549
  let v803 : BitVec 1 := Scalar.andi v802 v799
  let v804 : BitVec 32 := Scalar.addi v798 v797
  let v805 : BitVec 32 := Scalar.select v803 v804 v798
  let c1_i32_552 : BitVec 32 := 1#32
  let v806 : BitVec 1 := Scalar.cmpi .eq v805 c1_i32_552
  let v807 : BitVec 1 := Scalar.xori v795 v806
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v831 : BitVec 32 := Scalar.select v807 v62 v94
  let c16_i32_571 : BitVec 32 := 16#32
  let v836 : BitVec 32 := Scalar.muli v831 c16_i32_571
  let v837 : BitVec 32 := Scalar.addi c0_i32_572 v836
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v832 : BitVec 32 := Scalar.select v807 v65 v97
  let c4_i32_573 : BitVec 32 := 4#32
  let v838 : BitVec 32 := Scalar.muli v832 c4_i32_573
  let v839 : BitVec 32 := Scalar.addi v837 v838
  let c1_i32_574 : BitVec 32 := 1#32
  let v840 : BitVec 32 := Scalar.muli v8 c1_i32_574
  let v841 : BitVec 32 := Scalar.addi v839 v840
  v841.toNat
def k0_dev17 (d0 : Dev nD) : Nat :=
  let c0_i32_607 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_606 : BitVec 32 := 16#32
  let v888 : BitVec 32 := Scalar.muli v2 c16_i32_606
  let v889 : BitVec 32 := Scalar.addi c0_i32_607 v888
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_608 : BitVec 32 := 4#32
  let v890 : BitVec 32 := Scalar.muli v5 c4_i32_608
  let v891 : BitVec 32 := Scalar.addi v889 v890
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_609 : BitVec 32 := 1#32
  let v892 : BitVec 32 := Scalar.muli v19 c1_i32_609
  let v893 : BitVec 32 := Scalar.addi v891 v892
  v893.toNat
def k0_dev18 (d0 : Dev nD) : Nat :=
  let c0_i32_642 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_641 : BitVec 32 := 16#32
  let v940 : BitVec 32 := Scalar.muli v2 c16_i32_641
  let v941 : BitVec 32 := Scalar.addi c0_i32_642 v940
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_643 : BitVec 32 := 4#32
  let v942 : BitVec 32 := Scalar.muli v5 c4_i32_643
  let v943 : BitVec 32 := Scalar.addi v941 v942
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_644 : BitVec 32 := 1#32
  let v944 : BitVec 32 := Scalar.muli v19 c1_i32_644
  let v945 : BitVec 32 := Scalar.addi v943 v944
  v945.toNat
def k0_dev19 (d0 : Dev nD) : Nat :=
  let c0_i32_690 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_655 : BitVec 32 := 1#32
  let v964 : BitVec 32 := Scalar.addi v8 c1_i32_655
  let c2_i32_656 : BitVec 32 := 2#32
  let v965 : BitVec 32 := Scalar.subi v964 c2_i32_656
  let c4_i32_657 : BitVec 32 := 4#32
  let c0_i32_658 : BitVec 32 := 0#32
  let v966 : BitVec 1 := Scalar.cmpi .eq c4_i32_657 c0_i32_658
  let c1_i32_659 : BitVec 32 := 1#32
  let v967 : BitVec 32 := Scalar.select v966 c1_i32_659 c4_i32_657
  let v968 : BitVec 32 := Scalar.remsi v965 v967
  let c0_i32_661 : BitVec 32 := 0#32
  let v970 : BitVec 1 := Scalar.cmpi .slt v968 c0_i32_661
  let c0_i32_662 : BitVec 32 := 0#32
  let v971 : BitVec 1 := Scalar.cmpi .slt v967 c0_i32_662
  let v972 : BitVec 1 := Scalar.xori v970 v971
  let c0_i32_660 : BitVec 32 := 0#32
  let v969 : BitVec 1 := Scalar.cmpi .ne v968 c0_i32_660
  let v973 : BitVec 1 := Scalar.andi v972 v969
  let v974 : BitVec 32 := Scalar.addi v968 v967
  let v975 : BitVec 32 := Scalar.select v973 v974 v968
  let c2_i32_663 : BitVec 32 := 2#32
  let v976 : BitVec 1 := Scalar.cmpi .slt v975 c2_i32_663
  let c2_i32_664 : BitVec 32 := 2#32
  let c0_i32_665 : BitVec 32 := 0#32
  let v977 : BitVec 1 := Scalar.cmpi .eq c2_i32_664 c0_i32_665
  let c1_i32_666 : BitVec 32 := 1#32
  let v978 : BitVec 32 := Scalar.select v977 c1_i32_666 c2_i32_664
  let v979 : BitVec 32 := Scalar.remsi v8 v978
  let c0_i32_668 : BitVec 32 := 0#32
  let v981 : BitVec 1 := Scalar.cmpi .slt v979 c0_i32_668
  let c0_i32_669 : BitVec 32 := 0#32
  let v982 : BitVec 1 := Scalar.cmpi .slt v978 c0_i32_669
  let v983 : BitVec 1 := Scalar.xori v981 v982
  let c0_i32_667 : BitVec 32 := 0#32
  let v980 : BitVec 1 := Scalar.cmpi .ne v979 c0_i32_667
  let v984 : BitVec 1 := Scalar.andi v983 v980
  let v985 : BitVec 32 := Scalar.addi v979 v978
  let v986 : BitVec 32 := Scalar.select v984 v985 v979
  let c1_i32_670 : BitVec 32 := 1#32
  let v987 : BitVec 1 := Scalar.cmpi .eq v986 c1_i32_670
  let v988 : BitVec 1 := Scalar.xori v976 v987
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v1012 : BitVec 32 := Scalar.select v988 v62 v94
  let c16_i32_689 : BitVec 32 := 16#32
  let v1017 : BitVec 32 := Scalar.muli v1012 c16_i32_689
  let v1018 : BitVec 32 := Scalar.addi c0_i32_690 v1017
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v1013 : BitVec 32 := Scalar.select v988 v65 v97
  let c4_i32_691 : BitVec 32 := 4#32
  let v1019 : BitVec 32 := Scalar.muli v1013 c4_i32_691
  let v1020 : BitVec 32 := Scalar.addi v1018 v1019
  let c1_i32_692 : BitVec 32 := 1#32
  let v1021 : BitVec 32 := Scalar.muli v8 c1_i32_692
  let v1022 : BitVec 32 := Scalar.addi v1020 v1021
  v1022.toNat
def k0_dev20 (d0 : Dev nD) : Nat :=
  let c0_i32_773 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_739 : BitVec 32 := 1#32
  let v1091 : BitVec 32 := Scalar.addi v8 c1_i32_739
  let c3_i32_740 : BitVec 32 := 3#32
  let v1092 : BitVec 32 := Scalar.subi v1091 c3_i32_740
  let c4_i32_741 : BitVec 32 := 4#32
  let c0_i32_742 : BitVec 32 := 0#32
  let v1093 : BitVec 1 := Scalar.cmpi .eq c4_i32_741 c0_i32_742
  let c1_i32_743 : BitVec 32 := 1#32
  let v1094 : BitVec 32 := Scalar.select v1093 c1_i32_743 c4_i32_741
  let v1095 : BitVec 32 := Scalar.remsi v1092 v1094
  let c0_i32_745 : BitVec 32 := 0#32
  let v1097 : BitVec 1 := Scalar.cmpi .slt v1095 c0_i32_745
  let c0_i32_746 : BitVec 32 := 0#32
  let v1098 : BitVec 1 := Scalar.cmpi .slt v1094 c0_i32_746
  let v1099 : BitVec 1 := Scalar.xori v1097 v1098
  let c0_i32_744 : BitVec 32 := 0#32
  let v1096 : BitVec 1 := Scalar.cmpi .ne v1095 c0_i32_744
  let v1100 : BitVec 1 := Scalar.andi v1099 v1096
  let v1101 : BitVec 32 := Scalar.addi v1095 v1094
  let v1102 : BitVec 32 := Scalar.select v1100 v1101 v1095
  let c2_i32_747 : BitVec 32 := 2#32
  let v1103 : BitVec 1 := Scalar.cmpi .slt v1102 c2_i32_747
  let c2_i32_748 : BitVec 32 := 2#32
  let c0_i32_749 : BitVec 32 := 0#32
  let v1104 : BitVec 1 := Scalar.cmpi .eq c2_i32_748 c0_i32_749
  let c1_i32_750 : BitVec 32 := 1#32
  let v1105 : BitVec 32 := Scalar.select v1104 c1_i32_750 c2_i32_748
  let v1106 : BitVec 32 := Scalar.remsi v8 v1105
  let c0_i32_752 : BitVec 32 := 0#32
  let v1108 : BitVec 1 := Scalar.cmpi .slt v1106 c0_i32_752
  let c0_i32_753 : BitVec 32 := 0#32
  let v1109 : BitVec 1 := Scalar.cmpi .slt v1105 c0_i32_753
  let v1110 : BitVec 1 := Scalar.xori v1108 v1109
  let c0_i32_751 : BitVec 32 := 0#32
  let v1107 : BitVec 1 := Scalar.cmpi .ne v1106 c0_i32_751
  let v1111 : BitVec 1 := Scalar.andi v1110 v1107
  let v1112 : BitVec 32 := Scalar.addi v1106 v1105
  let v1113 : BitVec 32 := Scalar.select v1111 v1112 v1106
  let c1_i32_754 : BitVec 32 := 1#32
  let v1114 : BitVec 1 := Scalar.cmpi .eq v1113 c1_i32_754
  let v1115 : BitVec 1 := Scalar.xori v1103 v1114
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v1139 : BitVec 32 := Scalar.select v1115 v62 v94
  let c16_i32_772 : BitVec 32 := 16#32
  let v1144 : BitVec 32 := Scalar.muli v1139 c16_i32_772
  let v1145 : BitVec 32 := Scalar.addi c0_i32_773 v1144
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v1140 : BitVec 32 := Scalar.select v1115 v65 v97
  let c4_i32_774 : BitVec 32 := 4#32
  let v1146 : BitVec 32 := Scalar.muli v1140 c4_i32_774
  let v1147 : BitVec 32 := Scalar.addi v1145 v1146
  let c1_i32_775 : BitVec 32 := 1#32
  let v1148 : BitVec 32 := Scalar.muli v8 c1_i32_775
  let v1149 : BitVec 32 := Scalar.addi v1147 v1148
  v1149.toNat
def k0_dev21 (d0 : Dev nD) : Nat :=
  let c0_i32_869 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_834 : BitVec 32 := 1#32
  let v1243 : BitVec 32 := Scalar.addi v8 c1_i32_834
  let c0_i32_835 : BitVec 32 := 0#32
  let v1244 : BitVec 32 := Scalar.subi v1243 c0_i32_835
  let c4_i32_836 : BitVec 32 := 4#32
  let c0_i32_837 : BitVec 32 := 0#32
  let v1245 : BitVec 1 := Scalar.cmpi .eq c4_i32_836 c0_i32_837
  let c1_i32_838 : BitVec 32 := 1#32
  let v1246 : BitVec 32 := Scalar.select v1245 c1_i32_838 c4_i32_836
  let v1247 : BitVec 32 := Scalar.remsi v1244 v1246
  let c0_i32_840 : BitVec 32 := 0#32
  let v1249 : BitVec 1 := Scalar.cmpi .slt v1247 c0_i32_840
  let c0_i32_841 : BitVec 32 := 0#32
  let v1250 : BitVec 1 := Scalar.cmpi .slt v1246 c0_i32_841
  let v1251 : BitVec 1 := Scalar.xori v1249 v1250
  let c0_i32_839 : BitVec 32 := 0#32
  let v1248 : BitVec 1 := Scalar.cmpi .ne v1247 c0_i32_839
  let v1252 : BitVec 1 := Scalar.andi v1251 v1248
  let v1253 : BitVec 32 := Scalar.addi v1247 v1246
  let v1254 : BitVec 32 := Scalar.select v1252 v1253 v1247
  let c2_i32_842 : BitVec 32 := 2#32
  let v1255 : BitVec 1 := Scalar.cmpi .slt v1254 c2_i32_842
  let c2_i32_843 : BitVec 32 := 2#32
  let c0_i32_844 : BitVec 32 := 0#32
  let v1256 : BitVec 1 := Scalar.cmpi .eq c2_i32_843 c0_i32_844
  let c1_i32_845 : BitVec 32 := 1#32
  let v1257 : BitVec 32 := Scalar.select v1256 c1_i32_845 c2_i32_843
  let v1258 : BitVec 32 := Scalar.remsi v8 v1257
  let c0_i32_847 : BitVec 32 := 0#32
  let v1260 : BitVec 1 := Scalar.cmpi .slt v1258 c0_i32_847
  let c0_i32_848 : BitVec 32 := 0#32
  let v1261 : BitVec 1 := Scalar.cmpi .slt v1257 c0_i32_848
  let v1262 : BitVec 1 := Scalar.xori v1260 v1261
  let c0_i32_846 : BitVec 32 := 0#32
  let v1259 : BitVec 1 := Scalar.cmpi .ne v1258 c0_i32_846
  let v1263 : BitVec 1 := Scalar.andi v1262 v1259
  let v1264 : BitVec 32 := Scalar.addi v1258 v1257
  let v1265 : BitVec 32 := Scalar.select v1263 v1264 v1258
  let c1_i32_849 : BitVec 32 := 1#32
  let v1266 : BitVec 1 := Scalar.cmpi .eq v1265 c1_i32_849
  let v1267 : BitVec 1 := Scalar.xori v1255 v1266
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v1291 : BitVec 32 := Scalar.select v1267 v62 v94
  let c16_i32_868 : BitVec 32 := 16#32
  let v1296 : BitVec 32 := Scalar.muli v1291 c16_i32_868
  let v1297 : BitVec 32 := Scalar.addi c0_i32_869 v1296
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v1292 : BitVec 32 := Scalar.select v1267 v65 v97
  let c4_i32_870 : BitVec 32 := 4#32
  let v1298 : BitVec 32 := Scalar.muli v1292 c4_i32_870
  let v1299 : BitVec 32 := Scalar.addi v1297 v1298
  let c1_i32_871 : BitVec 32 := 1#32
  let v1300 : BitVec 32 := Scalar.muli v8 c1_i32_871
  let v1301 : BitVec 32 := Scalar.addi v1299 v1300
  v1301.toNat
def k0_dev22 (d0 : Dev nD) : Nat :=
  let c0_i32_965 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_930 : BitVec 32 := 1#32
  let v1395 : BitVec 32 := Scalar.addi v8 c1_i32_930
  let c1_i32_931 : BitVec 32 := 1#32
  let v1396 : BitVec 32 := Scalar.subi v1395 c1_i32_931
  let c4_i32_932 : BitVec 32 := 4#32
  let c0_i32_933 : BitVec 32 := 0#32
  let v1397 : BitVec 1 := Scalar.cmpi .eq c4_i32_932 c0_i32_933
  let c1_i32_934 : BitVec 32 := 1#32
  let v1398 : BitVec 32 := Scalar.select v1397 c1_i32_934 c4_i32_932
  let v1399 : BitVec 32 := Scalar.remsi v1396 v1398
  let c0_i32_936 : BitVec 32 := 0#32
  let v1401 : BitVec 1 := Scalar.cmpi .slt v1399 c0_i32_936
  let c0_i32_937 : BitVec 32 := 0#32
  let v1402 : BitVec 1 := Scalar.cmpi .slt v1398 c0_i32_937
  let v1403 : BitVec 1 := Scalar.xori v1401 v1402
  let c0_i32_935 : BitVec 32 := 0#32
  let v1400 : BitVec 1 := Scalar.cmpi .ne v1399 c0_i32_935
  let v1404 : BitVec 1 := Scalar.andi v1403 v1400
  let v1405 : BitVec 32 := Scalar.addi v1399 v1398
  let v1406 : BitVec 32 := Scalar.select v1404 v1405 v1399
  let c2_i32_938 : BitVec 32 := 2#32
  let v1407 : BitVec 1 := Scalar.cmpi .slt v1406 c2_i32_938
  let c2_i32_939 : BitVec 32 := 2#32
  let c0_i32_940 : BitVec 32 := 0#32
  let v1408 : BitVec 1 := Scalar.cmpi .eq c2_i32_939 c0_i32_940
  let c1_i32_941 : BitVec 32 := 1#32
  let v1409 : BitVec 32 := Scalar.select v1408 c1_i32_941 c2_i32_939
  let v1410 : BitVec 32 := Scalar.remsi v8 v1409
  let c0_i32_943 : BitVec 32 := 0#32
  let v1412 : BitVec 1 := Scalar.cmpi .slt v1410 c0_i32_943
  let c0_i32_944 : BitVec 32 := 0#32
  let v1413 : BitVec 1 := Scalar.cmpi .slt v1409 c0_i32_944
  let v1414 : BitVec 1 := Scalar.xori v1412 v1413
  let c0_i32_942 : BitVec 32 := 0#32
  let v1411 : BitVec 1 := Scalar.cmpi .ne v1410 c0_i32_942
  let v1415 : BitVec 1 := Scalar.andi v1414 v1411
  let v1416 : BitVec 32 := Scalar.addi v1410 v1409
  let v1417 : BitVec 32 := Scalar.select v1415 v1416 v1410
  let c1_i32_945 : BitVec 32 := 1#32
  let v1418 : BitVec 1 := Scalar.cmpi .eq v1417 c1_i32_945
  let v1419 : BitVec 1 := Scalar.xori v1407 v1418
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v1443 : BitVec 32 := Scalar.select v1419 v62 v94
  let c16_i32_964 : BitVec 32 := 16#32
  let v1448 : BitVec 32 := Scalar.muli v1443 c16_i32_964
  let v1449 : BitVec 32 := Scalar.addi c0_i32_965 v1448
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v1444 : BitVec 32 := Scalar.select v1419 v65 v97
  let c4_i32_966 : BitVec 32 := 4#32
  let v1450 : BitVec 32 := Scalar.muli v1444 c4_i32_966
  let v1451 : BitVec 32 := Scalar.addi v1449 v1450
  let c1_i32_967 : BitVec 32 := 1#32
  let v1452 : BitVec 32 := Scalar.muli v8 c1_i32_967
  let v1453 : BitVec 32 := Scalar.addi v1451 v1452
  v1453.toNat
def k0_dev23 (d0 : Dev nD) : Nat :=
  let c0_i32_1061 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1026 : BitVec 32 := 1#32
  let v1547 : BitVec 32 := Scalar.addi v8 c1_i32_1026
  let c2_i32_1027 : BitVec 32 := 2#32
  let v1548 : BitVec 32 := Scalar.subi v1547 c2_i32_1027
  let c4_i32_1028 : BitVec 32 := 4#32
  let c0_i32_1029 : BitVec 32 := 0#32
  let v1549 : BitVec 1 := Scalar.cmpi .eq c4_i32_1028 c0_i32_1029
  let c1_i32_1030 : BitVec 32 := 1#32
  let v1550 : BitVec 32 := Scalar.select v1549 c1_i32_1030 c4_i32_1028
  let v1551 : BitVec 32 := Scalar.remsi v1548 v1550
  let c0_i32_1032 : BitVec 32 := 0#32
  let v1553 : BitVec 1 := Scalar.cmpi .slt v1551 c0_i32_1032
  let c0_i32_1033 : BitVec 32 := 0#32
  let v1554 : BitVec 1 := Scalar.cmpi .slt v1550 c0_i32_1033
  let v1555 : BitVec 1 := Scalar.xori v1553 v1554
  let c0_i32_1031 : BitVec 32 := 0#32
  let v1552 : BitVec 1 := Scalar.cmpi .ne v1551 c0_i32_1031
  let v1556 : BitVec 1 := Scalar.andi v1555 v1552
  let v1557 : BitVec 32 := Scalar.addi v1551 v1550
  let v1558 : BitVec 32 := Scalar.select v1556 v1557 v1551
  let c2_i32_1034 : BitVec 32 := 2#32
  let v1559 : BitVec 1 := Scalar.cmpi .slt v1558 c2_i32_1034
  let c2_i32_1035 : BitVec 32 := 2#32
  let c0_i32_1036 : BitVec 32 := 0#32
  let v1560 : BitVec 1 := Scalar.cmpi .eq c2_i32_1035 c0_i32_1036
  let c1_i32_1037 : BitVec 32 := 1#32
  let v1561 : BitVec 32 := Scalar.select v1560 c1_i32_1037 c2_i32_1035
  let v1562 : BitVec 32 := Scalar.remsi v8 v1561
  let c0_i32_1039 : BitVec 32 := 0#32
  let v1564 : BitVec 1 := Scalar.cmpi .slt v1562 c0_i32_1039
  let c0_i32_1040 : BitVec 32 := 0#32
  let v1565 : BitVec 1 := Scalar.cmpi .slt v1561 c0_i32_1040
  let v1566 : BitVec 1 := Scalar.xori v1564 v1565
  let c0_i32_1038 : BitVec 32 := 0#32
  let v1563 : BitVec 1 := Scalar.cmpi .ne v1562 c0_i32_1038
  let v1567 : BitVec 1 := Scalar.andi v1566 v1563
  let v1568 : BitVec 32 := Scalar.addi v1562 v1561
  let v1569 : BitVec 32 := Scalar.select v1567 v1568 v1562
  let c1_i32_1041 : BitVec 32 := 1#32
  let v1570 : BitVec 1 := Scalar.cmpi .eq v1569 c1_i32_1041
  let v1571 : BitVec 1 := Scalar.xori v1559 v1570
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v1595 : BitVec 32 := Scalar.select v1571 v62 v94
  let c16_i32_1060 : BitVec 32 := 16#32
  let v1600 : BitVec 32 := Scalar.muli v1595 c16_i32_1060
  let v1601 : BitVec 32 := Scalar.addi c0_i32_1061 v1600
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v1596 : BitVec 32 := Scalar.select v1571 v65 v97
  let c4_i32_1062 : BitVec 32 := 4#32
  let v1602 : BitVec 32 := Scalar.muli v1596 c4_i32_1062
  let v1603 : BitVec 32 := Scalar.addi v1601 v1602
  let c1_i32_1063 : BitVec 32 := 1#32
  let v1604 : BitVec 32 := Scalar.muli v8 c1_i32_1063
  let v1605 : BitVec 32 := Scalar.addi v1603 v1604
  v1605.toNat
def k0_dev24 (d0 : Dev nD) : Nat :=
  let c0_i32_1157 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1122 : BitVec 32 := 1#32
  let v1699 : BitVec 32 := Scalar.addi v8 c1_i32_1122
  let c3_i32_1123 : BitVec 32 := 3#32
  let v1700 : BitVec 32 := Scalar.subi v1699 c3_i32_1123
  let c4_i32_1124 : BitVec 32 := 4#32
  let c0_i32_1125 : BitVec 32 := 0#32
  let v1701 : BitVec 1 := Scalar.cmpi .eq c4_i32_1124 c0_i32_1125
  let c1_i32_1126 : BitVec 32 := 1#32
  let v1702 : BitVec 32 := Scalar.select v1701 c1_i32_1126 c4_i32_1124
  let v1703 : BitVec 32 := Scalar.remsi v1700 v1702
  let c0_i32_1128 : BitVec 32 := 0#32
  let v1705 : BitVec 1 := Scalar.cmpi .slt v1703 c0_i32_1128
  let c0_i32_1129 : BitVec 32 := 0#32
  let v1706 : BitVec 1 := Scalar.cmpi .slt v1702 c0_i32_1129
  let v1707 : BitVec 1 := Scalar.xori v1705 v1706
  let c0_i32_1127 : BitVec 32 := 0#32
  let v1704 : BitVec 1 := Scalar.cmpi .ne v1703 c0_i32_1127
  let v1708 : BitVec 1 := Scalar.andi v1707 v1704
  let v1709 : BitVec 32 := Scalar.addi v1703 v1702
  let v1710 : BitVec 32 := Scalar.select v1708 v1709 v1703
  let c2_i32_1130 : BitVec 32 := 2#32
  let v1711 : BitVec 1 := Scalar.cmpi .slt v1710 c2_i32_1130
  let c2_i32_1131 : BitVec 32 := 2#32
  let c0_i32_1132 : BitVec 32 := 0#32
  let v1712 : BitVec 1 := Scalar.cmpi .eq c2_i32_1131 c0_i32_1132
  let c1_i32_1133 : BitVec 32 := 1#32
  let v1713 : BitVec 32 := Scalar.select v1712 c1_i32_1133 c2_i32_1131
  let v1714 : BitVec 32 := Scalar.remsi v8 v1713
  let c0_i32_1135 : BitVec 32 := 0#32
  let v1716 : BitVec 1 := Scalar.cmpi .slt v1714 c0_i32_1135
  let c0_i32_1136 : BitVec 32 := 0#32
  let v1717 : BitVec 1 := Scalar.cmpi .slt v1713 c0_i32_1136
  let v1718 : BitVec 1 := Scalar.xori v1716 v1717
  let c0_i32_1134 : BitVec 32 := 0#32
  let v1715 : BitVec 1 := Scalar.cmpi .ne v1714 c0_i32_1134
  let v1719 : BitVec 1 := Scalar.andi v1718 v1715
  let v1720 : BitVec 32 := Scalar.addi v1714 v1713
  let v1721 : BitVec 32 := Scalar.select v1719 v1720 v1714
  let c1_i32_1137 : BitVec 32 := 1#32
  let v1722 : BitVec 1 := Scalar.cmpi .eq v1721 c1_i32_1137
  let v1723 : BitVec 1 := Scalar.xori v1711 v1722
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v1747 : BitVec 32 := Scalar.select v1723 v62 v94
  let c16_i32_1156 : BitVec 32 := 16#32
  let v1752 : BitVec 32 := Scalar.muli v1747 c16_i32_1156
  let v1753 : BitVec 32 := Scalar.addi c0_i32_1157 v1752
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v1748 : BitVec 32 := Scalar.select v1723 v65 v97
  let c4_i32_1158 : BitVec 32 := 4#32
  let v1754 : BitVec 32 := Scalar.muli v1748 c4_i32_1158
  let v1755 : BitVec 32 := Scalar.addi v1753 v1754
  let c1_i32_1159 : BitVec 32 := 1#32
  let v1756 : BitVec 32 := Scalar.muli v8 c1_i32_1159
  let v1757 : BitVec 32 := Scalar.addi v1755 v1756
  v1757.toNat
def k0_off6 (d0 : Dev nD) (true_1169 : BitVec 1) (c1_i32_1170 : BitVec 32) (c1_i32_1177 : BitVec 32) (c0_i32_1185 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1162 : BitVec 32 := 2#32
  let c0_i32_1163 : BitVec 32 := 0#32
  let v1764 : BitVec 1 := Scalar.cmpi .eq c2_i32_1162 c0_i32_1163
  let c1_i32_1164 : BitVec 32 := 1#32
  let v1765 : BitVec 32 := Scalar.select v1764 c1_i32_1164 c2_i32_1162
  let v1766 : BitVec 32 := Scalar.remsi v8 v1765
  let c0_i32_1166 : BitVec 32 := 0#32
  let v1768 : BitVec 1 := Scalar.cmpi .slt v1766 c0_i32_1166
  let c0_i32_1167 : BitVec 32 := 0#32
  let v1769 : BitVec 1 := Scalar.cmpi .slt v1765 c0_i32_1167
  let v1770 : BitVec 1 := Scalar.xori v1768 v1769
  let c0_i32_1165 : BitVec 32 := 0#32
  let v1767 : BitVec 1 := Scalar.cmpi .ne v1766 c0_i32_1165
  let v1771 : BitVec 1 := Scalar.andi v1770 v1767
  let v1772 : BitVec 32 := Scalar.addi v1766 v1765
  let v1773 : BitVec 32 := Scalar.select v1771 v1772 v1766
  let c1_i32_1168 : BitVec 32 := 1#32
  let v1774 : BitVec 1 := Scalar.cmpi .eq v1773 c1_i32_1168
  let v1775 : BitVec 1 := Scalar.xori true_1169 v1774
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v1776 : BitVec 32 := Scalar.subi v34 c1_i32_1170
  let c8_i32_1171 : BitVec 32 := 8#32
  let c0_i32_1172 : BitVec 32 := 0#32
  let v1777 : BitVec 1 := Scalar.cmpi .eq c8_i32_1171 c0_i32_1172
  let c1_i32_1173 : BitVec 32 := 1#32
  let v1778 : BitVec 32 := Scalar.select v1777 c1_i32_1173 c8_i32_1171
  let v1779 : BitVec 32 := Scalar.remsi v1776 v1778
  let c0_i32_1175 : BitVec 32 := 0#32
  let v1781 : BitVec 1 := Scalar.cmpi .slt v1779 c0_i32_1175
  let c0_i32_1176 : BitVec 32 := 0#32
  let v1782 : BitVec 1 := Scalar.cmpi .slt v1778 c0_i32_1176
  let v1783 : BitVec 1 := Scalar.xori v1781 v1782
  let c0_i32_1174 : BitVec 32 := 0#32
  let v1780 : BitVec 1 := Scalar.cmpi .ne v1779 c0_i32_1174
  let v1784 : BitVec 1 := Scalar.andi v1783 v1780
  let v1785 : BitVec 32 := Scalar.addi v1779 v1778
  let v1786 : BitVec 32 := Scalar.select v1784 v1785 v1779
  let v1787 : BitVec 32 := Scalar.addi v34 c1_i32_1177
  let c8_i32_1178 : BitVec 32 := 8#32
  let c0_i32_1179 : BitVec 32 := 0#32
  let v1788 : BitVec 1 := Scalar.cmpi .eq c8_i32_1178 c0_i32_1179
  let c1_i32_1180 : BitVec 32 := 1#32
  let v1789 : BitVec 32 := Scalar.select v1788 c1_i32_1180 c8_i32_1178
  let v1790 : BitVec 32 := Scalar.remsi v1787 v1789
  let c0_i32_1182 : BitVec 32 := 0#32
  let v1792 : BitVec 1 := Scalar.cmpi .slt v1790 c0_i32_1182
  let c0_i32_1183 : BitVec 32 := 0#32
  let v1793 : BitVec 1 := Scalar.cmpi .slt v1789 c0_i32_1183
  let v1794 : BitVec 1 := Scalar.xori v1792 v1793
  let c0_i32_1181 : BitVec 32 := 0#32
  let v1791 : BitVec 1 := Scalar.cmpi .ne v1790 c0_i32_1181
  let v1795 : BitVec 1 := Scalar.andi v1794 v1791
  let v1796 : BitVec 32 := Scalar.addi v1790 v1789
  let v1797 : BitVec 32 := Scalar.select v1795 v1796 v1790
  let v1798 : BitVec 32 := Scalar.select v1775 v1786 v1797
  let c512_i32_1184 : BitVec 32 := 512#32
  let v1799 : BitVec 32 := Scalar.muli v1798 c512_i32_1184
  let v1800 : BitVec 32 := Scalar.addi v1799 c0_i32_1185
  let c0_i32_1193 : BitVec 32 := 0#32
  ![v1800.toNat, 0]
def k0_off6_at (r : Fin 8) : BitVec 1 × BitVec 32 × BitVec 32 × BitVec 32 :=
  if r.val < 4 then
    if r.val < 2 then
      if r.val < 1 then
        (1#1, 1#32, 1#32, 0#32)
      else
        (1#1, 1#32, 1#32, 128#32)
    else
      if r.val < 3 then
        (0#1, 1#32, 1#32, 256#32)
      else
        (0#1, 1#32, 1#32, 384#32)
  else
    if r.val < 6 then
      if r.val < 5 then
        (1#1, 2#32, 2#32, 0#32)
      else
        (1#1, 2#32, 2#32, 128#32)
    else
      if r.val < 7 then
        (0#1, 2#32, 2#32, 256#32)
      else
        (0#1, 2#32, 2#32, 384#32)
def k0_dev25 (d0 : Dev nD) : Nat :=
  let c0_i32_1190 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1189 : BitVec 32 := 16#32
  let v1802 : BitVec 32 := Scalar.muli v2 c16_i32_1189
  let v1803 : BitVec 32 := Scalar.addi c0_i32_1190 v1802
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1191 : BitVec 32 := 4#32
  let v1804 : BitVec 32 := Scalar.muli v5 c4_i32_1191
  let v1805 : BitVec 32 := Scalar.addi v1803 v1804
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1186 : BitVec 32 := 1#32
  let v1801 : BitVec 32 := Scalar.xori v8 c1_i32_1186
  let c1_i32_1192 : BitVec 32 := 1#32
  let v1806 : BitVec 32 := Scalar.muli v1801 c1_i32_1192
  let v1807 : BitVec 32 := Scalar.addi v1805 v1806
  v1807.toNat
def k0_dev26 (d0 : Dev nD) : Nat :=
  let c0_i32_1223 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1222 : BitVec 32 := 16#32
  let v1852 : BitVec 32 := Scalar.muli v2 c16_i32_1222
  let v1853 : BitVec 32 := Scalar.addi c0_i32_1223 v1852
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1224 : BitVec 32 := 4#32
  let v1854 : BitVec 32 := Scalar.muli v5 c4_i32_1224
  let v1855 : BitVec 32 := Scalar.addi v1853 v1854
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1219 : BitVec 32 := 1#32
  let v1851 : BitVec 32 := Scalar.xori v8 c1_i32_1219
  let c1_i32_1225 : BitVec 32 := 1#32
  let v1856 : BitVec 32 := Scalar.muli v1851 c1_i32_1225
  let v1857 : BitVec 32 := Scalar.addi v1855 v1856
  v1857.toNat
def k0_dev27 (d0 : Dev nD) : Nat :=
  let c0_i32_1254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1253 : BitVec 32 := 16#32
  let v1902 : BitVec 32 := Scalar.muli v2 c16_i32_1253
  let v1903 : BitVec 32 := Scalar.addi c0_i32_1254 v1902
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1255 : BitVec 32 := 4#32
  let v1904 : BitVec 32 := Scalar.muli v5 c4_i32_1255
  let v1905 : BitVec 32 := Scalar.addi v1903 v1904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1250 : BitVec 32 := 1#32
  let v1901 : BitVec 32 := Scalar.xori v8 c1_i32_1250
  let c1_i32_1256 : BitVec 32 := 1#32
  let v1906 : BitVec 32 := Scalar.muli v1901 c1_i32_1256
  let v1907 : BitVec 32 := Scalar.addi v1905 v1906
  v1907.toNat
def k0_dev28 (d0 : Dev nD) : Nat :=
  let c0_i32_1286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1285 : BitVec 32 := 16#32
  let v1952 : BitVec 32 := Scalar.muli v2 c16_i32_1285
  let v1953 : BitVec 32 := Scalar.addi c0_i32_1286 v1952
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1287 : BitVec 32 := 4#32
  let v1954 : BitVec 32 := Scalar.muli v5 c4_i32_1287
  let v1955 : BitVec 32 := Scalar.addi v1953 v1954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1282 : BitVec 32 := 1#32
  let v1951 : BitVec 32 := Scalar.xori v8 c1_i32_1282
  let c1_i32_1288 : BitVec 32 := 1#32
  let v1956 : BitVec 32 := Scalar.muli v1951 c1_i32_1288
  let v1957 : BitVec 32 := Scalar.addi v1955 v1956
  v1957.toNat
def k0_dev29 (d0 : Dev nD) : Nat :=
  let c0_i32_1382 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1347 : BitVec 32 := 1#32
  let v2051 : BitVec 32 := Scalar.addi v8 c1_i32_1347
  let c0_i32_1348 : BitVec 32 := 0#32
  let v2052 : BitVec 32 := Scalar.subi v2051 c0_i32_1348
  let c4_i32_1349 : BitVec 32 := 4#32
  let c0_i32_1350 : BitVec 32 := 0#32
  let v2053 : BitVec 1 := Scalar.cmpi .eq c4_i32_1349 c0_i32_1350
  let c1_i32_1351 : BitVec 32 := 1#32
  let v2054 : BitVec 32 := Scalar.select v2053 c1_i32_1351 c4_i32_1349
  let v2055 : BitVec 32 := Scalar.remsi v2052 v2054
  let c0_i32_1353 : BitVec 32 := 0#32
  let v2057 : BitVec 1 := Scalar.cmpi .slt v2055 c0_i32_1353
  let c0_i32_1354 : BitVec 32 := 0#32
  let v2058 : BitVec 1 := Scalar.cmpi .slt v2054 c0_i32_1354
  let v2059 : BitVec 1 := Scalar.xori v2057 v2058
  let c0_i32_1352 : BitVec 32 := 0#32
  let v2056 : BitVec 1 := Scalar.cmpi .ne v2055 c0_i32_1352
  let v2060 : BitVec 1 := Scalar.andi v2059 v2056
  let v2061 : BitVec 32 := Scalar.addi v2055 v2054
  let v2062 : BitVec 32 := Scalar.select v2060 v2061 v2055
  let c2_i32_1355 : BitVec 32 := 2#32
  let v2063 : BitVec 1 := Scalar.cmpi .slt v2062 c2_i32_1355
  let c2_i32_1356 : BitVec 32 := 2#32
  let c0_i32_1357 : BitVec 32 := 0#32
  let v2064 : BitVec 1 := Scalar.cmpi .eq c2_i32_1356 c0_i32_1357
  let c1_i32_1358 : BitVec 32 := 1#32
  let v2065 : BitVec 32 := Scalar.select v2064 c1_i32_1358 c2_i32_1356
  let v2066 : BitVec 32 := Scalar.remsi v8 v2065
  let c0_i32_1360 : BitVec 32 := 0#32
  let v2068 : BitVec 1 := Scalar.cmpi .slt v2066 c0_i32_1360
  let c0_i32_1361 : BitVec 32 := 0#32
  let v2069 : BitVec 1 := Scalar.cmpi .slt v2065 c0_i32_1361
  let v2070 : BitVec 1 := Scalar.xori v2068 v2069
  let c0_i32_1359 : BitVec 32 := 0#32
  let v2067 : BitVec 1 := Scalar.cmpi .ne v2066 c0_i32_1359
  let v2071 : BitVec 1 := Scalar.andi v2070 v2067
  let v2072 : BitVec 32 := Scalar.addi v2066 v2065
  let v2073 : BitVec 32 := Scalar.select v2071 v2072 v2066
  let c1_i32_1362 : BitVec 32 := 1#32
  let v2074 : BitVec 1 := Scalar.cmpi .eq v2073 c1_i32_1362
  let v2075 : BitVec 1 := Scalar.xori v2063 v2074
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v2099 : BitVec 32 := Scalar.select v2075 v62 v94
  let c16_i32_1381 : BitVec 32 := 16#32
  let v2104 : BitVec 32 := Scalar.muli v2099 c16_i32_1381
  let v2105 : BitVec 32 := Scalar.addi c0_i32_1382 v2104
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v2100 : BitVec 32 := Scalar.select v2075 v65 v97
  let c4_i32_1383 : BitVec 32 := 4#32
  let v2106 : BitVec 32 := Scalar.muli v2100 c4_i32_1383
  let v2107 : BitVec 32 := Scalar.addi v2105 v2106
  let c1_i32_1384 : BitVec 32 := 1#32
  let v2108 : BitVec 32 := Scalar.muli v8 c1_i32_1384
  let v2109 : BitVec 32 := Scalar.addi v2107 v2108
  v2109.toNat
def k0_dev30 (d0 : Dev nD) : Nat :=
  let c0_i32_1478 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1443 : BitVec 32 := 1#32
  let v2203 : BitVec 32 := Scalar.addi v8 c1_i32_1443
  let c1_i32_1444 : BitVec 32 := 1#32
  let v2204 : BitVec 32 := Scalar.subi v2203 c1_i32_1444
  let c4_i32_1445 : BitVec 32 := 4#32
  let c0_i32_1446 : BitVec 32 := 0#32
  let v2205 : BitVec 1 := Scalar.cmpi .eq c4_i32_1445 c0_i32_1446
  let c1_i32_1447 : BitVec 32 := 1#32
  let v2206 : BitVec 32 := Scalar.select v2205 c1_i32_1447 c4_i32_1445
  let v2207 : BitVec 32 := Scalar.remsi v2204 v2206
  let c0_i32_1449 : BitVec 32 := 0#32
  let v2209 : BitVec 1 := Scalar.cmpi .slt v2207 c0_i32_1449
  let c0_i32_1450 : BitVec 32 := 0#32
  let v2210 : BitVec 1 := Scalar.cmpi .slt v2206 c0_i32_1450
  let v2211 : BitVec 1 := Scalar.xori v2209 v2210
  let c0_i32_1448 : BitVec 32 := 0#32
  let v2208 : BitVec 1 := Scalar.cmpi .ne v2207 c0_i32_1448
  let v2212 : BitVec 1 := Scalar.andi v2211 v2208
  let v2213 : BitVec 32 := Scalar.addi v2207 v2206
  let v2214 : BitVec 32 := Scalar.select v2212 v2213 v2207
  let c2_i32_1451 : BitVec 32 := 2#32
  let v2215 : BitVec 1 := Scalar.cmpi .slt v2214 c2_i32_1451
  let c2_i32_1452 : BitVec 32 := 2#32
  let c0_i32_1453 : BitVec 32 := 0#32
  let v2216 : BitVec 1 := Scalar.cmpi .eq c2_i32_1452 c0_i32_1453
  let c1_i32_1454 : BitVec 32 := 1#32
  let v2217 : BitVec 32 := Scalar.select v2216 c1_i32_1454 c2_i32_1452
  let v2218 : BitVec 32 := Scalar.remsi v8 v2217
  let c0_i32_1456 : BitVec 32 := 0#32
  let v2220 : BitVec 1 := Scalar.cmpi .slt v2218 c0_i32_1456
  let c0_i32_1457 : BitVec 32 := 0#32
  let v2221 : BitVec 1 := Scalar.cmpi .slt v2217 c0_i32_1457
  let v2222 : BitVec 1 := Scalar.xori v2220 v2221
  let c0_i32_1455 : BitVec 32 := 0#32
  let v2219 : BitVec 1 := Scalar.cmpi .ne v2218 c0_i32_1455
  let v2223 : BitVec 1 := Scalar.andi v2222 v2219
  let v2224 : BitVec 32 := Scalar.addi v2218 v2217
  let v2225 : BitVec 32 := Scalar.select v2223 v2224 v2218
  let c1_i32_1458 : BitVec 32 := 1#32
  let v2226 : BitVec 1 := Scalar.cmpi .eq v2225 c1_i32_1458
  let v2227 : BitVec 1 := Scalar.xori v2215 v2226
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v2251 : BitVec 32 := Scalar.select v2227 v62 v94
  let c16_i32_1477 : BitVec 32 := 16#32
  let v2256 : BitVec 32 := Scalar.muli v2251 c16_i32_1477
  let v2257 : BitVec 32 := Scalar.addi c0_i32_1478 v2256
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v2252 : BitVec 32 := Scalar.select v2227 v65 v97
  let c4_i32_1479 : BitVec 32 := 4#32
  let v2258 : BitVec 32 := Scalar.muli v2252 c4_i32_1479
  let v2259 : BitVec 32 := Scalar.addi v2257 v2258
  let c1_i32_1480 : BitVec 32 := 1#32
  let v2260 : BitVec 32 := Scalar.muli v8 c1_i32_1480
  let v2261 : BitVec 32 := Scalar.addi v2259 v2260
  v2261.toNat
def k0_dev31 (d0 : Dev nD) : Nat :=
  let c0_i32_1573 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1539 : BitVec 32 := 1#32
  let v2355 : BitVec 32 := Scalar.addi v8 c1_i32_1539
  let c2_i32_1540 : BitVec 32 := 2#32
  let v2356 : BitVec 32 := Scalar.subi v2355 c2_i32_1540
  let c4_i32_1541 : BitVec 32 := 4#32
  let c0_i32_1542 : BitVec 32 := 0#32
  let v2357 : BitVec 1 := Scalar.cmpi .eq c4_i32_1541 c0_i32_1542
  let c1_i32_1543 : BitVec 32 := 1#32
  let v2358 : BitVec 32 := Scalar.select v2357 c1_i32_1543 c4_i32_1541
  let v2359 : BitVec 32 := Scalar.remsi v2356 v2358
  let c0_i32_1545 : BitVec 32 := 0#32
  let v2361 : BitVec 1 := Scalar.cmpi .slt v2359 c0_i32_1545
  let c0_i32_1546 : BitVec 32 := 0#32
  let v2362 : BitVec 1 := Scalar.cmpi .slt v2358 c0_i32_1546
  let v2363 : BitVec 1 := Scalar.xori v2361 v2362
  let c0_i32_1544 : BitVec 32 := 0#32
  let v2360 : BitVec 1 := Scalar.cmpi .ne v2359 c0_i32_1544
  let v2364 : BitVec 1 := Scalar.andi v2363 v2360
  let v2365 : BitVec 32 := Scalar.addi v2359 v2358
  let v2366 : BitVec 32 := Scalar.select v2364 v2365 v2359
  let c2_i32_1547 : BitVec 32 := 2#32
  let v2367 : BitVec 1 := Scalar.cmpi .slt v2366 c2_i32_1547
  let c2_i32_1548 : BitVec 32 := 2#32
  let c0_i32_1549 : BitVec 32 := 0#32
  let v2368 : BitVec 1 := Scalar.cmpi .eq c2_i32_1548 c0_i32_1549
  let c1_i32_1550 : BitVec 32 := 1#32
  let v2369 : BitVec 32 := Scalar.select v2368 c1_i32_1550 c2_i32_1548
  let v2370 : BitVec 32 := Scalar.remsi v8 v2369
  let c0_i32_1552 : BitVec 32 := 0#32
  let v2372 : BitVec 1 := Scalar.cmpi .slt v2370 c0_i32_1552
  let c0_i32_1553 : BitVec 32 := 0#32
  let v2373 : BitVec 1 := Scalar.cmpi .slt v2369 c0_i32_1553
  let v2374 : BitVec 1 := Scalar.xori v2372 v2373
  let c0_i32_1551 : BitVec 32 := 0#32
  let v2371 : BitVec 1 := Scalar.cmpi .ne v2370 c0_i32_1551
  let v2375 : BitVec 1 := Scalar.andi v2374 v2371
  let v2376 : BitVec 32 := Scalar.addi v2370 v2369
  let v2377 : BitVec 32 := Scalar.select v2375 v2376 v2370
  let c1_i32_1554 : BitVec 32 := 1#32
  let v2378 : BitVec 1 := Scalar.cmpi .eq v2377 c1_i32_1554
  let v2379 : BitVec 1 := Scalar.xori v2367 v2378
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v2403 : BitVec 32 := Scalar.select v2379 v62 v94
  let c16_i32_1572 : BitVec 32 := 16#32
  let v2408 : BitVec 32 := Scalar.muli v2403 c16_i32_1572
  let v2409 : BitVec 32 := Scalar.addi c0_i32_1573 v2408
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v2404 : BitVec 32 := Scalar.select v2379 v65 v97
  let c4_i32_1574 : BitVec 32 := 4#32
  let v2410 : BitVec 32 := Scalar.muli v2404 c4_i32_1574
  let v2411 : BitVec 32 := Scalar.addi v2409 v2410
  let c1_i32_1575 : BitVec 32 := 1#32
  let v2412 : BitVec 32 := Scalar.muli v8 c1_i32_1575
  let v2413 : BitVec 32 := Scalar.addi v2411 v2412
  v2413.toNat
def k0_dev32 (d0 : Dev nD) : Nat :=
  let c0_i32_1668 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1634 : BitVec 32 := 1#32
  let v2507 : BitVec 32 := Scalar.addi v8 c1_i32_1634
  let c3_i32_1635 : BitVec 32 := 3#32
  let v2508 : BitVec 32 := Scalar.subi v2507 c3_i32_1635
  let c4_i32_1636 : BitVec 32 := 4#32
  let c0_i32_1637 : BitVec 32 := 0#32
  let v2509 : BitVec 1 := Scalar.cmpi .eq c4_i32_1636 c0_i32_1637
  let c1_i32_1638 : BitVec 32 := 1#32
  let v2510 : BitVec 32 := Scalar.select v2509 c1_i32_1638 c4_i32_1636
  let v2511 : BitVec 32 := Scalar.remsi v2508 v2510
  let c0_i32_1640 : BitVec 32 := 0#32
  let v2513 : BitVec 1 := Scalar.cmpi .slt v2511 c0_i32_1640
  let c0_i32_1641 : BitVec 32 := 0#32
  let v2514 : BitVec 1 := Scalar.cmpi .slt v2510 c0_i32_1641
  let v2515 : BitVec 1 := Scalar.xori v2513 v2514
  let c0_i32_1639 : BitVec 32 := 0#32
  let v2512 : BitVec 1 := Scalar.cmpi .ne v2511 c0_i32_1639
  let v2516 : BitVec 1 := Scalar.andi v2515 v2512
  let v2517 : BitVec 32 := Scalar.addi v2511 v2510
  let v2518 : BitVec 32 := Scalar.select v2516 v2517 v2511
  let c2_i32_1642 : BitVec 32 := 2#32
  let v2519 : BitVec 1 := Scalar.cmpi .slt v2518 c2_i32_1642
  let c2_i32_1643 : BitVec 32 := 2#32
  let c0_i32_1644 : BitVec 32 := 0#32
  let v2520 : BitVec 1 := Scalar.cmpi .eq c2_i32_1643 c0_i32_1644
  let c1_i32_1645 : BitVec 32 := 1#32
  let v2521 : BitVec 32 := Scalar.select v2520 c1_i32_1645 c2_i32_1643
  let v2522 : BitVec 32 := Scalar.remsi v8 v2521
  let c0_i32_1647 : BitVec 32 := 0#32
  let v2524 : BitVec 1 := Scalar.cmpi .slt v2522 c0_i32_1647
  let c0_i32_1648 : BitVec 32 := 0#32
  let v2525 : BitVec 1 := Scalar.cmpi .slt v2521 c0_i32_1648
  let v2526 : BitVec 1 := Scalar.xori v2524 v2525
  let c0_i32_1646 : BitVec 32 := 0#32
  let v2523 : BitVec 1 := Scalar.cmpi .ne v2522 c0_i32_1646
  let v2527 : BitVec 1 := Scalar.andi v2526 v2523
  let v2528 : BitVec 32 := Scalar.addi v2522 v2521
  let v2529 : BitVec 32 := Scalar.select v2527 v2528 v2522
  let c1_i32_1649 : BitVec 32 := 1#32
  let v2530 : BitVec 1 := Scalar.cmpi .eq v2529 c1_i32_1649
  let v2531 : BitVec 1 := Scalar.xori v2519 v2530
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v2555 : BitVec 32 := Scalar.select v2531 v62 v94
  let c16_i32_1667 : BitVec 32 := 16#32
  let v2560 : BitVec 32 := Scalar.muli v2555 c16_i32_1667
  let v2561 : BitVec 32 := Scalar.addi c0_i32_1668 v2560
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v2556 : BitVec 32 := Scalar.select v2531 v65 v97
  let c4_i32_1669 : BitVec 32 := 4#32
  let v2562 : BitVec 32 := Scalar.muli v2556 c4_i32_1669
  let v2563 : BitVec 32 := Scalar.addi v2561 v2562
  let c1_i32_1670 : BitVec 32 := 1#32
  let v2564 : BitVec 32 := Scalar.muli v8 c1_i32_1670
  let v2565 : BitVec 32 := Scalar.addi v2563 v2564
  v2565.toNat
def k0_dev33 (d0 : Dev nD) : Nat :=
  let c0_i32_1701 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1700 : BitVec 32 := 16#32
  let v2610 : BitVec 32 := Scalar.muli v2 c16_i32_1700
  let v2611 : BitVec 32 := Scalar.addi c0_i32_1701 v2610
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1702 : BitVec 32 := 4#32
  let v2612 : BitVec 32 := Scalar.muli v5 c4_i32_1702
  let v2613 : BitVec 32 := Scalar.addi v2611 v2612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1697 : BitVec 32 := 1#32
  let v2609 : BitVec 32 := Scalar.xori v8 c1_i32_1697
  let c1_i32_1703 : BitVec 32 := 1#32
  let v2614 : BitVec 32 := Scalar.muli v2609 c1_i32_1703
  let v2615 : BitVec 32 := Scalar.addi v2613 v2614
  v2615.toNat
def k0_dev34 (d0 : Dev nD) : Nat :=
  let c0_i32_1734 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1733 : BitVec 32 := 16#32
  let v2660 : BitVec 32 := Scalar.muli v2 c16_i32_1733
  let v2661 : BitVec 32 := Scalar.addi c0_i32_1734 v2660
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1735 : BitVec 32 := 4#32
  let v2662 : BitVec 32 := Scalar.muli v5 c4_i32_1735
  let v2663 : BitVec 32 := Scalar.addi v2661 v2662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1730 : BitVec 32 := 1#32
  let v2659 : BitVec 32 := Scalar.xori v8 c1_i32_1730
  let c1_i32_1736 : BitVec 32 := 1#32
  let v2664 : BitVec 32 := Scalar.muli v2659 c1_i32_1736
  let v2665 : BitVec 32 := Scalar.addi v2663 v2664
  v2665.toNat
def k0_dev35 (d0 : Dev nD) : Nat :=
  let c0_i32_1767 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1766 : BitVec 32 := 16#32
  let v2710 : BitVec 32 := Scalar.muli v2 c16_i32_1766
  let v2711 : BitVec 32 := Scalar.addi c0_i32_1767 v2710
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2712 : BitVec 32 := Scalar.muli v5 c4_i32_1768
  let v2713 : BitVec 32 := Scalar.addi v2711 v2712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1763 : BitVec 32 := 1#32
  let v2709 : BitVec 32 := Scalar.xori v8 c1_i32_1763
  let c1_i32_1769 : BitVec 32 := 1#32
  let v2714 : BitVec 32 := Scalar.muli v2709 c1_i32_1769
  let v2715 : BitVec 32 := Scalar.addi v2713 v2714
  v2715.toNat
def k0_dev36 (d0 : Dev nD) : Nat :=
  let c0_i32_1800 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1799 : BitVec 32 := 16#32
  let v2760 : BitVec 32 := Scalar.muli v2 c16_i32_1799
  let v2761 : BitVec 32 := Scalar.addi c0_i32_1800 v2760
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1801 : BitVec 32 := 4#32
  let v2762 : BitVec 32 := Scalar.muli v5 c4_i32_1801
  let v2763 : BitVec 32 := Scalar.addi v2761 v2762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1796 : BitVec 32 := 1#32
  let v2759 : BitVec 32 := Scalar.xori v8 c1_i32_1796
  let c1_i32_1802 : BitVec 32 := 1#32
  let v2764 : BitVec 32 := Scalar.muli v2759 c1_i32_1802
  let v2765 : BitVec 32 := Scalar.addi v2763 v2764
  v2765.toNat
def k0_dev37 (d0 : Dev nD) : Nat :=
  let c0_i32_1896 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1861 : BitVec 32 := 1#32
  let v2859 : BitVec 32 := Scalar.addi v8 c1_i32_1861
  let c0_i32_1862 : BitVec 32 := 0#32
  let v2860 : BitVec 32 := Scalar.subi v2859 c0_i32_1862
  let c4_i32_1863 : BitVec 32 := 4#32
  let c0_i32_1864 : BitVec 32 := 0#32
  let v2861 : BitVec 1 := Scalar.cmpi .eq c4_i32_1863 c0_i32_1864
  let c1_i32_1865 : BitVec 32 := 1#32
  let v2862 : BitVec 32 := Scalar.select v2861 c1_i32_1865 c4_i32_1863
  let v2863 : BitVec 32 := Scalar.remsi v2860 v2862
  let c0_i32_1867 : BitVec 32 := 0#32
  let v2865 : BitVec 1 := Scalar.cmpi .slt v2863 c0_i32_1867
  let c0_i32_1868 : BitVec 32 := 0#32
  let v2866 : BitVec 1 := Scalar.cmpi .slt v2862 c0_i32_1868
  let v2867 : BitVec 1 := Scalar.xori v2865 v2866
  let c0_i32_1866 : BitVec 32 := 0#32
  let v2864 : BitVec 1 := Scalar.cmpi .ne v2863 c0_i32_1866
  let v2868 : BitVec 1 := Scalar.andi v2867 v2864
  let v2869 : BitVec 32 := Scalar.addi v2863 v2862
  let v2870 : BitVec 32 := Scalar.select v2868 v2869 v2863
  let c2_i32_1869 : BitVec 32 := 2#32
  let v2871 : BitVec 1 := Scalar.cmpi .slt v2870 c2_i32_1869
  let c2_i32_1870 : BitVec 32 := 2#32
  let c0_i32_1871 : BitVec 32 := 0#32
  let v2872 : BitVec 1 := Scalar.cmpi .eq c2_i32_1870 c0_i32_1871
  let c1_i32_1872 : BitVec 32 := 1#32
  let v2873 : BitVec 32 := Scalar.select v2872 c1_i32_1872 c2_i32_1870
  let v2874 : BitVec 32 := Scalar.remsi v8 v2873
  let c0_i32_1874 : BitVec 32 := 0#32
  let v2876 : BitVec 1 := Scalar.cmpi .slt v2874 c0_i32_1874
  let c0_i32_1875 : BitVec 32 := 0#32
  let v2877 : BitVec 1 := Scalar.cmpi .slt v2873 c0_i32_1875
  let v2878 : BitVec 1 := Scalar.xori v2876 v2877
  let c0_i32_1873 : BitVec 32 := 0#32
  let v2875 : BitVec 1 := Scalar.cmpi .ne v2874 c0_i32_1873
  let v2879 : BitVec 1 := Scalar.andi v2878 v2875
  let v2880 : BitVec 32 := Scalar.addi v2874 v2873
  let v2881 : BitVec 32 := Scalar.select v2879 v2880 v2874
  let c1_i32_1876 : BitVec 32 := 1#32
  let v2882 : BitVec 1 := Scalar.cmpi .eq v2881 c1_i32_1876
  let v2883 : BitVec 1 := Scalar.xori v2871 v2882
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v2907 : BitVec 32 := Scalar.select v2883 v62 v94
  let c16_i32_1895 : BitVec 32 := 16#32
  let v2912 : BitVec 32 := Scalar.muli v2907 c16_i32_1895
  let v2913 : BitVec 32 := Scalar.addi c0_i32_1896 v2912
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v2908 : BitVec 32 := Scalar.select v2883 v65 v97
  let c4_i32_1897 : BitVec 32 := 4#32
  let v2914 : BitVec 32 := Scalar.muli v2908 c4_i32_1897
  let v2915 : BitVec 32 := Scalar.addi v2913 v2914
  let c1_i32_1898 : BitVec 32 := 1#32
  let v2916 : BitVec 32 := Scalar.muli v8 c1_i32_1898
  let v2917 : BitVec 32 := Scalar.addi v2915 v2916
  v2917.toNat
def k0_dev38 (d0 : Dev nD) : Nat :=
  let c0_i32_1992 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1957 : BitVec 32 := 1#32
  let v3011 : BitVec 32 := Scalar.addi v8 c1_i32_1957
  let c1_i32_1958 : BitVec 32 := 1#32
  let v3012 : BitVec 32 := Scalar.subi v3011 c1_i32_1958
  let c4_i32_1959 : BitVec 32 := 4#32
  let c0_i32_1960 : BitVec 32 := 0#32
  let v3013 : BitVec 1 := Scalar.cmpi .eq c4_i32_1959 c0_i32_1960
  let c1_i32_1961 : BitVec 32 := 1#32
  let v3014 : BitVec 32 := Scalar.select v3013 c1_i32_1961 c4_i32_1959
  let v3015 : BitVec 32 := Scalar.remsi v3012 v3014
  let c0_i32_1963 : BitVec 32 := 0#32
  let v3017 : BitVec 1 := Scalar.cmpi .slt v3015 c0_i32_1963
  let c0_i32_1964 : BitVec 32 := 0#32
  let v3018 : BitVec 1 := Scalar.cmpi .slt v3014 c0_i32_1964
  let v3019 : BitVec 1 := Scalar.xori v3017 v3018
  let c0_i32_1962 : BitVec 32 := 0#32
  let v3016 : BitVec 1 := Scalar.cmpi .ne v3015 c0_i32_1962
  let v3020 : BitVec 1 := Scalar.andi v3019 v3016
  let v3021 : BitVec 32 := Scalar.addi v3015 v3014
  let v3022 : BitVec 32 := Scalar.select v3020 v3021 v3015
  let c2_i32_1965 : BitVec 32 := 2#32
  let v3023 : BitVec 1 := Scalar.cmpi .slt v3022 c2_i32_1965
  let c2_i32_1966 : BitVec 32 := 2#32
  let c0_i32_1967 : BitVec 32 := 0#32
  let v3024 : BitVec 1 := Scalar.cmpi .eq c2_i32_1966 c0_i32_1967
  let c1_i32_1968 : BitVec 32 := 1#32
  let v3025 : BitVec 32 := Scalar.select v3024 c1_i32_1968 c2_i32_1966
  let v3026 : BitVec 32 := Scalar.remsi v8 v3025
  let c0_i32_1970 : BitVec 32 := 0#32
  let v3028 : BitVec 1 := Scalar.cmpi .slt v3026 c0_i32_1970
  let c0_i32_1971 : BitVec 32 := 0#32
  let v3029 : BitVec 1 := Scalar.cmpi .slt v3025 c0_i32_1971
  let v3030 : BitVec 1 := Scalar.xori v3028 v3029
  let c0_i32_1969 : BitVec 32 := 0#32
  let v3027 : BitVec 1 := Scalar.cmpi .ne v3026 c0_i32_1969
  let v3031 : BitVec 1 := Scalar.andi v3030 v3027
  let v3032 : BitVec 32 := Scalar.addi v3026 v3025
  let v3033 : BitVec 32 := Scalar.select v3031 v3032 v3026
  let c1_i32_1972 : BitVec 32 := 1#32
  let v3034 : BitVec 1 := Scalar.cmpi .eq v3033 c1_i32_1972
  let v3035 : BitVec 1 := Scalar.xori v3023 v3034
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v3059 : BitVec 32 := Scalar.select v3035 v62 v94
  let c16_i32_1991 : BitVec 32 := 16#32
  let v3064 : BitVec 32 := Scalar.muli v3059 c16_i32_1991
  let v3065 : BitVec 32 := Scalar.addi c0_i32_1992 v3064
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v3060 : BitVec 32 := Scalar.select v3035 v65 v97
  let c4_i32_1993 : BitVec 32 := 4#32
  let v3066 : BitVec 32 := Scalar.muli v3060 c4_i32_1993
  let v3067 : BitVec 32 := Scalar.addi v3065 v3066
  let c1_i32_1994 : BitVec 32 := 1#32
  let v3068 : BitVec 32 := Scalar.muli v8 c1_i32_1994
  let v3069 : BitVec 32 := Scalar.addi v3067 v3068
  v3069.toNat
def k0_dev39 (d0 : Dev nD) : Nat :=
  let c0_i32_2087 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2053 : BitVec 32 := 1#32
  let v3163 : BitVec 32 := Scalar.addi v8 c1_i32_2053
  let c2_i32_2054 : BitVec 32 := 2#32
  let v3164 : BitVec 32 := Scalar.subi v3163 c2_i32_2054
  let c4_i32_2055 : BitVec 32 := 4#32
  let c0_i32_2056 : BitVec 32 := 0#32
  let v3165 : BitVec 1 := Scalar.cmpi .eq c4_i32_2055 c0_i32_2056
  let c1_i32_2057 : BitVec 32 := 1#32
  let v3166 : BitVec 32 := Scalar.select v3165 c1_i32_2057 c4_i32_2055
  let v3167 : BitVec 32 := Scalar.remsi v3164 v3166
  let c0_i32_2059 : BitVec 32 := 0#32
  let v3169 : BitVec 1 := Scalar.cmpi .slt v3167 c0_i32_2059
  let c0_i32_2060 : BitVec 32 := 0#32
  let v3170 : BitVec 1 := Scalar.cmpi .slt v3166 c0_i32_2060
  let v3171 : BitVec 1 := Scalar.xori v3169 v3170
  let c0_i32_2058 : BitVec 32 := 0#32
  let v3168 : BitVec 1 := Scalar.cmpi .ne v3167 c0_i32_2058
  let v3172 : BitVec 1 := Scalar.andi v3171 v3168
  let v3173 : BitVec 32 := Scalar.addi v3167 v3166
  let v3174 : BitVec 32 := Scalar.select v3172 v3173 v3167
  let c2_i32_2061 : BitVec 32 := 2#32
  let v3175 : BitVec 1 := Scalar.cmpi .slt v3174 c2_i32_2061
  let c2_i32_2062 : BitVec 32 := 2#32
  let c0_i32_2063 : BitVec 32 := 0#32
  let v3176 : BitVec 1 := Scalar.cmpi .eq c2_i32_2062 c0_i32_2063
  let c1_i32_2064 : BitVec 32 := 1#32
  let v3177 : BitVec 32 := Scalar.select v3176 c1_i32_2064 c2_i32_2062
  let v3178 : BitVec 32 := Scalar.remsi v8 v3177
  let c0_i32_2066 : BitVec 32 := 0#32
  let v3180 : BitVec 1 := Scalar.cmpi .slt v3178 c0_i32_2066
  let c0_i32_2067 : BitVec 32 := 0#32
  let v3181 : BitVec 1 := Scalar.cmpi .slt v3177 c0_i32_2067
  let v3182 : BitVec 1 := Scalar.xori v3180 v3181
  let c0_i32_2065 : BitVec 32 := 0#32
  let v3179 : BitVec 1 := Scalar.cmpi .ne v3178 c0_i32_2065
  let v3183 : BitVec 1 := Scalar.andi v3182 v3179
  let v3184 : BitVec 32 := Scalar.addi v3178 v3177
  let v3185 : BitVec 32 := Scalar.select v3183 v3184 v3178
  let c1_i32_2068 : BitVec 32 := 1#32
  let v3186 : BitVec 1 := Scalar.cmpi .eq v3185 c1_i32_2068
  let v3187 : BitVec 1 := Scalar.xori v3175 v3186
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v3211 : BitVec 32 := Scalar.select v3187 v62 v94
  let c16_i32_2086 : BitVec 32 := 16#32
  let v3216 : BitVec 32 := Scalar.muli v3211 c16_i32_2086
  let v3217 : BitVec 32 := Scalar.addi c0_i32_2087 v3216
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v3212 : BitVec 32 := Scalar.select v3187 v65 v97
  let c4_i32_2088 : BitVec 32 := 4#32
  let v3218 : BitVec 32 := Scalar.muli v3212 c4_i32_2088
  let v3219 : BitVec 32 := Scalar.addi v3217 v3218
  let c1_i32_2089 : BitVec 32 := 1#32
  let v3220 : BitVec 32 := Scalar.muli v8 c1_i32_2089
  let v3221 : BitVec 32 := Scalar.addi v3219 v3220
  v3221.toNat
def k0_dev40 (d0 : Dev nD) : Nat :=
  let c0_i32_2182 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2148 : BitVec 32 := 1#32
  let v3315 : BitVec 32 := Scalar.addi v8 c1_i32_2148
  let c3_i32_2149 : BitVec 32 := 3#32
  let v3316 : BitVec 32 := Scalar.subi v3315 c3_i32_2149
  let c4_i32_2150 : BitVec 32 := 4#32
  let c0_i32_2151 : BitVec 32 := 0#32
  let v3317 : BitVec 1 := Scalar.cmpi .eq c4_i32_2150 c0_i32_2151
  let c1_i32_2152 : BitVec 32 := 1#32
  let v3318 : BitVec 32 := Scalar.select v3317 c1_i32_2152 c4_i32_2150
  let v3319 : BitVec 32 := Scalar.remsi v3316 v3318
  let c0_i32_2154 : BitVec 32 := 0#32
  let v3321 : BitVec 1 := Scalar.cmpi .slt v3319 c0_i32_2154
  let c0_i32_2155 : BitVec 32 := 0#32
  let v3322 : BitVec 1 := Scalar.cmpi .slt v3318 c0_i32_2155
  let v3323 : BitVec 1 := Scalar.xori v3321 v3322
  let c0_i32_2153 : BitVec 32 := 0#32
  let v3320 : BitVec 1 := Scalar.cmpi .ne v3319 c0_i32_2153
  let v3324 : BitVec 1 := Scalar.andi v3323 v3320
  let v3325 : BitVec 32 := Scalar.addi v3319 v3318
  let v3326 : BitVec 32 := Scalar.select v3324 v3325 v3319
  let c2_i32_2156 : BitVec 32 := 2#32
  let v3327 : BitVec 1 := Scalar.cmpi .slt v3326 c2_i32_2156
  let c2_i32_2157 : BitVec 32 := 2#32
  let c0_i32_2158 : BitVec 32 := 0#32
  let v3328 : BitVec 1 := Scalar.cmpi .eq c2_i32_2157 c0_i32_2158
  let c1_i32_2159 : BitVec 32 := 1#32
  let v3329 : BitVec 32 := Scalar.select v3328 c1_i32_2159 c2_i32_2157
  let v3330 : BitVec 32 := Scalar.remsi v8 v3329
  let c0_i32_2161 : BitVec 32 := 0#32
  let v3332 : BitVec 1 := Scalar.cmpi .slt v3330 c0_i32_2161
  let c0_i32_2162 : BitVec 32 := 0#32
  let v3333 : BitVec 1 := Scalar.cmpi .slt v3329 c0_i32_2162
  let v3334 : BitVec 1 := Scalar.xori v3332 v3333
  let c0_i32_2160 : BitVec 32 := 0#32
  let v3331 : BitVec 1 := Scalar.cmpi .ne v3330 c0_i32_2160
  let v3335 : BitVec 1 := Scalar.andi v3334 v3331
  let v3336 : BitVec 32 := Scalar.addi v3330 v3329
  let v3337 : BitVec 32 := Scalar.select v3335 v3336 v3330
  let c1_i32_2163 : BitVec 32 := 1#32
  let v3338 : BitVec 1 := Scalar.cmpi .eq v3337 c1_i32_2163
  let v3339 : BitVec 1 := Scalar.xori v3327 v3338
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v3363 : BitVec 32 := Scalar.select v3339 v62 v94
  let c16_i32_2181 : BitVec 32 := 16#32
  let v3368 : BitVec 32 := Scalar.muli v3363 c16_i32_2181
  let v3369 : BitVec 32 := Scalar.addi c0_i32_2182 v3368
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v3364 : BitVec 32 := Scalar.select v3339 v65 v97
  let c4_i32_2183 : BitVec 32 := 4#32
  let v3370 : BitVec 32 := Scalar.muli v3364 c4_i32_2183
  let v3371 : BitVec 32 := Scalar.addi v3369 v3370
  let c1_i32_2184 : BitVec 32 := 1#32
  let v3372 : BitVec 32 := Scalar.muli v8 c1_i32_2184
  let v3373 : BitVec 32 := Scalar.addi v3371 v3372
  v3373.toNat
def k0_dev41 (d0 : Dev nD) : Nat :=
  let c0_i32_2278 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2243 : BitVec 32 := 1#32
  let v3467 : BitVec 32 := Scalar.addi v8 c1_i32_2243
  let c0_i32_2244 : BitVec 32 := 0#32
  let v3468 : BitVec 32 := Scalar.subi v3467 c0_i32_2244
  let c4_i32_2245 : BitVec 32 := 4#32
  let c0_i32_2246 : BitVec 32 := 0#32
  let v3469 : BitVec 1 := Scalar.cmpi .eq c4_i32_2245 c0_i32_2246
  let c1_i32_2247 : BitVec 32 := 1#32
  let v3470 : BitVec 32 := Scalar.select v3469 c1_i32_2247 c4_i32_2245
  let v3471 : BitVec 32 := Scalar.remsi v3468 v3470
  let c0_i32_2249 : BitVec 32 := 0#32
  let v3473 : BitVec 1 := Scalar.cmpi .slt v3471 c0_i32_2249
  let c0_i32_2250 : BitVec 32 := 0#32
  let v3474 : BitVec 1 := Scalar.cmpi .slt v3470 c0_i32_2250
  let v3475 : BitVec 1 := Scalar.xori v3473 v3474
  let c0_i32_2248 : BitVec 32 := 0#32
  let v3472 : BitVec 1 := Scalar.cmpi .ne v3471 c0_i32_2248
  let v3476 : BitVec 1 := Scalar.andi v3475 v3472
  let v3477 : BitVec 32 := Scalar.addi v3471 v3470
  let v3478 : BitVec 32 := Scalar.select v3476 v3477 v3471
  let c2_i32_2251 : BitVec 32 := 2#32
  let v3479 : BitVec 1 := Scalar.cmpi .slt v3478 c2_i32_2251
  let c2_i32_2252 : BitVec 32 := 2#32
  let c0_i32_2253 : BitVec 32 := 0#32
  let v3480 : BitVec 1 := Scalar.cmpi .eq c2_i32_2252 c0_i32_2253
  let c1_i32_2254 : BitVec 32 := 1#32
  let v3481 : BitVec 32 := Scalar.select v3480 c1_i32_2254 c2_i32_2252
  let v3482 : BitVec 32 := Scalar.remsi v8 v3481
  let c0_i32_2256 : BitVec 32 := 0#32
  let v3484 : BitVec 1 := Scalar.cmpi .slt v3482 c0_i32_2256
  let c0_i32_2257 : BitVec 32 := 0#32
  let v3485 : BitVec 1 := Scalar.cmpi .slt v3481 c0_i32_2257
  let v3486 : BitVec 1 := Scalar.xori v3484 v3485
  let c0_i32_2255 : BitVec 32 := 0#32
  let v3483 : BitVec 1 := Scalar.cmpi .ne v3482 c0_i32_2255
  let v3487 : BitVec 1 := Scalar.andi v3486 v3483
  let v3488 : BitVec 32 := Scalar.addi v3482 v3481
  let v3489 : BitVec 32 := Scalar.select v3487 v3488 v3482
  let c1_i32_2258 : BitVec 32 := 1#32
  let v3490 : BitVec 1 := Scalar.cmpi .eq v3489 c1_i32_2258
  let v3491 : BitVec 1 := Scalar.xori v3479 v3490
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v3515 : BitVec 32 := Scalar.select v3491 v62 v94
  let c16_i32_2277 : BitVec 32 := 16#32
  let v3520 : BitVec 32 := Scalar.muli v3515 c16_i32_2277
  let v3521 : BitVec 32 := Scalar.addi c0_i32_2278 v3520
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v3516 : BitVec 32 := Scalar.select v3491 v65 v97
  let c4_i32_2279 : BitVec 32 := 4#32
  let v3522 : BitVec 32 := Scalar.muli v3516 c4_i32_2279
  let v3523 : BitVec 32 := Scalar.addi v3521 v3522
  let c1_i32_2280 : BitVec 32 := 1#32
  let v3524 : BitVec 32 := Scalar.muli v8 c1_i32_2280
  let v3525 : BitVec 32 := Scalar.addi v3523 v3524
  v3525.toNat
def k0_dev42 (d0 : Dev nD) : Nat :=
  let c0_i32_2374 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2339 : BitVec 32 := 1#32
  let v3619 : BitVec 32 := Scalar.addi v8 c1_i32_2339
  let c1_i32_2340 : BitVec 32 := 1#32
  let v3620 : BitVec 32 := Scalar.subi v3619 c1_i32_2340
  let c4_i32_2341 : BitVec 32 := 4#32
  let c0_i32_2342 : BitVec 32 := 0#32
  let v3621 : BitVec 1 := Scalar.cmpi .eq c4_i32_2341 c0_i32_2342
  let c1_i32_2343 : BitVec 32 := 1#32
  let v3622 : BitVec 32 := Scalar.select v3621 c1_i32_2343 c4_i32_2341
  let v3623 : BitVec 32 := Scalar.remsi v3620 v3622
  let c0_i32_2345 : BitVec 32 := 0#32
  let v3625 : BitVec 1 := Scalar.cmpi .slt v3623 c0_i32_2345
  let c0_i32_2346 : BitVec 32 := 0#32
  let v3626 : BitVec 1 := Scalar.cmpi .slt v3622 c0_i32_2346
  let v3627 : BitVec 1 := Scalar.xori v3625 v3626
  let c0_i32_2344 : BitVec 32 := 0#32
  let v3624 : BitVec 1 := Scalar.cmpi .ne v3623 c0_i32_2344
  let v3628 : BitVec 1 := Scalar.andi v3627 v3624
  let v3629 : BitVec 32 := Scalar.addi v3623 v3622
  let v3630 : BitVec 32 := Scalar.select v3628 v3629 v3623
  let c2_i32_2347 : BitVec 32 := 2#32
  let v3631 : BitVec 1 := Scalar.cmpi .slt v3630 c2_i32_2347
  let c2_i32_2348 : BitVec 32 := 2#32
  let c0_i32_2349 : BitVec 32 := 0#32
  let v3632 : BitVec 1 := Scalar.cmpi .eq c2_i32_2348 c0_i32_2349
  let c1_i32_2350 : BitVec 32 := 1#32
  let v3633 : BitVec 32 := Scalar.select v3632 c1_i32_2350 c2_i32_2348
  let v3634 : BitVec 32 := Scalar.remsi v8 v3633
  let c0_i32_2352 : BitVec 32 := 0#32
  let v3636 : BitVec 1 := Scalar.cmpi .slt v3634 c0_i32_2352
  let c0_i32_2353 : BitVec 32 := 0#32
  let v3637 : BitVec 1 := Scalar.cmpi .slt v3633 c0_i32_2353
  let v3638 : BitVec 1 := Scalar.xori v3636 v3637
  let c0_i32_2351 : BitVec 32 := 0#32
  let v3635 : BitVec 1 := Scalar.cmpi .ne v3634 c0_i32_2351
  let v3639 : BitVec 1 := Scalar.andi v3638 v3635
  let v3640 : BitVec 32 := Scalar.addi v3634 v3633
  let v3641 : BitVec 32 := Scalar.select v3639 v3640 v3634
  let c1_i32_2354 : BitVec 32 := 1#32
  let v3642 : BitVec 1 := Scalar.cmpi .eq v3641 c1_i32_2354
  let v3643 : BitVec 1 := Scalar.xori v3631 v3642
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v3667 : BitVec 32 := Scalar.select v3643 v62 v94
  let c16_i32_2373 : BitVec 32 := 16#32
  let v3672 : BitVec 32 := Scalar.muli v3667 c16_i32_2373
  let v3673 : BitVec 32 := Scalar.addi c0_i32_2374 v3672
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v3668 : BitVec 32 := Scalar.select v3643 v65 v97
  let c4_i32_2375 : BitVec 32 := 4#32
  let v3674 : BitVec 32 := Scalar.muli v3668 c4_i32_2375
  let v3675 : BitVec 32 := Scalar.addi v3673 v3674
  let c1_i32_2376 : BitVec 32 := 1#32
  let v3676 : BitVec 32 := Scalar.muli v8 c1_i32_2376
  let v3677 : BitVec 32 := Scalar.addi v3675 v3676
  v3677.toNat
def k0_dev43 (d0 : Dev nD) : Nat :=
  let c0_i32_2469 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2435 : BitVec 32 := 1#32
  let v3771 : BitVec 32 := Scalar.addi v8 c1_i32_2435
  let c2_i32_2436 : BitVec 32 := 2#32
  let v3772 : BitVec 32 := Scalar.subi v3771 c2_i32_2436
  let c4_i32_2437 : BitVec 32 := 4#32
  let c0_i32_2438 : BitVec 32 := 0#32
  let v3773 : BitVec 1 := Scalar.cmpi .eq c4_i32_2437 c0_i32_2438
  let c1_i32_2439 : BitVec 32 := 1#32
  let v3774 : BitVec 32 := Scalar.select v3773 c1_i32_2439 c4_i32_2437
  let v3775 : BitVec 32 := Scalar.remsi v3772 v3774
  let c0_i32_2441 : BitVec 32 := 0#32
  let v3777 : BitVec 1 := Scalar.cmpi .slt v3775 c0_i32_2441
  let c0_i32_2442 : BitVec 32 := 0#32
  let v3778 : BitVec 1 := Scalar.cmpi .slt v3774 c0_i32_2442
  let v3779 : BitVec 1 := Scalar.xori v3777 v3778
  let c0_i32_2440 : BitVec 32 := 0#32
  let v3776 : BitVec 1 := Scalar.cmpi .ne v3775 c0_i32_2440
  let v3780 : BitVec 1 := Scalar.andi v3779 v3776
  let v3781 : BitVec 32 := Scalar.addi v3775 v3774
  let v3782 : BitVec 32 := Scalar.select v3780 v3781 v3775
  let c2_i32_2443 : BitVec 32 := 2#32
  let v3783 : BitVec 1 := Scalar.cmpi .slt v3782 c2_i32_2443
  let c2_i32_2444 : BitVec 32 := 2#32
  let c0_i32_2445 : BitVec 32 := 0#32
  let v3784 : BitVec 1 := Scalar.cmpi .eq c2_i32_2444 c0_i32_2445
  let c1_i32_2446 : BitVec 32 := 1#32
  let v3785 : BitVec 32 := Scalar.select v3784 c1_i32_2446 c2_i32_2444
  let v3786 : BitVec 32 := Scalar.remsi v8 v3785
  let c0_i32_2448 : BitVec 32 := 0#32
  let v3788 : BitVec 1 := Scalar.cmpi .slt v3786 c0_i32_2448
  let c0_i32_2449 : BitVec 32 := 0#32
  let v3789 : BitVec 1 := Scalar.cmpi .slt v3785 c0_i32_2449
  let v3790 : BitVec 1 := Scalar.xori v3788 v3789
  let c0_i32_2447 : BitVec 32 := 0#32
  let v3787 : BitVec 1 := Scalar.cmpi .ne v3786 c0_i32_2447
  let v3791 : BitVec 1 := Scalar.andi v3790 v3787
  let v3792 : BitVec 32 := Scalar.addi v3786 v3785
  let v3793 : BitVec 32 := Scalar.select v3791 v3792 v3786
  let c1_i32_2450 : BitVec 32 := 1#32
  let v3794 : BitVec 1 := Scalar.cmpi .eq v3793 c1_i32_2450
  let v3795 : BitVec 1 := Scalar.xori v3783 v3794
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v3819 : BitVec 32 := Scalar.select v3795 v62 v94
  let c16_i32_2468 : BitVec 32 := 16#32
  let v3824 : BitVec 32 := Scalar.muli v3819 c16_i32_2468
  let v3825 : BitVec 32 := Scalar.addi c0_i32_2469 v3824
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v3820 : BitVec 32 := Scalar.select v3795 v65 v97
  let c4_i32_2470 : BitVec 32 := 4#32
  let v3826 : BitVec 32 := Scalar.muli v3820 c4_i32_2470
  let v3827 : BitVec 32 := Scalar.addi v3825 v3826
  let c1_i32_2471 : BitVec 32 := 1#32
  let v3828 : BitVec 32 := Scalar.muli v8 c1_i32_2471
  let v3829 : BitVec 32 := Scalar.addi v3827 v3828
  v3829.toNat
def k0_dev44 (d0 : Dev nD) : Nat :=
  let c0_i32_2564 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2530 : BitVec 32 := 1#32
  let v3923 : BitVec 32 := Scalar.addi v8 c1_i32_2530
  let c3_i32_2531 : BitVec 32 := 3#32
  let v3924 : BitVec 32 := Scalar.subi v3923 c3_i32_2531
  let c4_i32_2532 : BitVec 32 := 4#32
  let c0_i32_2533 : BitVec 32 := 0#32
  let v3925 : BitVec 1 := Scalar.cmpi .eq c4_i32_2532 c0_i32_2533
  let c1_i32_2534 : BitVec 32 := 1#32
  let v3926 : BitVec 32 := Scalar.select v3925 c1_i32_2534 c4_i32_2532
  let v3927 : BitVec 32 := Scalar.remsi v3924 v3926
  let c0_i32_2536 : BitVec 32 := 0#32
  let v3929 : BitVec 1 := Scalar.cmpi .slt v3927 c0_i32_2536
  let c0_i32_2537 : BitVec 32 := 0#32
  let v3930 : BitVec 1 := Scalar.cmpi .slt v3926 c0_i32_2537
  let v3931 : BitVec 1 := Scalar.xori v3929 v3930
  let c0_i32_2535 : BitVec 32 := 0#32
  let v3928 : BitVec 1 := Scalar.cmpi .ne v3927 c0_i32_2535
  let v3932 : BitVec 1 := Scalar.andi v3931 v3928
  let v3933 : BitVec 32 := Scalar.addi v3927 v3926
  let v3934 : BitVec 32 := Scalar.select v3932 v3933 v3927
  let c2_i32_2538 : BitVec 32 := 2#32
  let v3935 : BitVec 1 := Scalar.cmpi .slt v3934 c2_i32_2538
  let c2_i32_2539 : BitVec 32 := 2#32
  let c0_i32_2540 : BitVec 32 := 0#32
  let v3936 : BitVec 1 := Scalar.cmpi .eq c2_i32_2539 c0_i32_2540
  let c1_i32_2541 : BitVec 32 := 1#32
  let v3937 : BitVec 32 := Scalar.select v3936 c1_i32_2541 c2_i32_2539
  let v3938 : BitVec 32 := Scalar.remsi v8 v3937
  let c0_i32_2543 : BitVec 32 := 0#32
  let v3940 : BitVec 1 := Scalar.cmpi .slt v3938 c0_i32_2543
  let c0_i32_2544 : BitVec 32 := 0#32
  let v3941 : BitVec 1 := Scalar.cmpi .slt v3937 c0_i32_2544
  let v3942 : BitVec 1 := Scalar.xori v3940 v3941
  let c0_i32_2542 : BitVec 32 := 0#32
  let v3939 : BitVec 1 := Scalar.cmpi .ne v3938 c0_i32_2542
  let v3943 : BitVec 1 := Scalar.andi v3942 v3939
  let v3944 : BitVec 32 := Scalar.addi v3938 v3937
  let v3945 : BitVec 32 := Scalar.select v3943 v3944 v3938
  let c1_i32_2545 : BitVec 32 := 1#32
  let v3946 : BitVec 1 := Scalar.cmpi .eq v3945 c1_i32_2545
  let v3947 : BitVec 1 := Scalar.xori v3935 v3946
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let c1_i32_17 : BitVec 32 := 1#32
  let v35 : BitVec 32 := Scalar.addi v34 c1_i32_17
  let c8_i32 : BitVec 32 := 8#32
  let c0_i32_18 : BitVec 32 := 0#32
  let v36 : BitVec 1 := Scalar.cmpi .eq c8_i32 c0_i32_18
  let c1_i32_19 : BitVec 32 := 1#32
  let v37 : BitVec 32 := Scalar.select v36 c1_i32_19 c8_i32
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_24 : BitVec 32 := 0#32
  let v47 : BitVec 1 := Scalar.cmpi .sgt v45 c0_i32_24
  let v48 : BitVec 32 := Scalar.extui v47
  let c0_i32_25 : BitVec 32 := 0#32
  let v49 : BitVec 1 := Scalar.cmpi .slt v45 c0_i32_25
  let v50 : BitVec 32 := Scalar.extui v49
  let v51 : BitVec 32 := Scalar.subi v48 v50
  let c4_i32_23 : BitVec 32 := 4#32
  let c0_i32_26 : BitVec 32 := 0#32
  let v52 : BitVec 1 := Scalar.cmpi .sgt c4_i32_23 c0_i32_26
  let v53 : BitVec 32 := Scalar.extui v52
  let c0_i32_27 : BitVec 32 := 0#32
  let v54 : BitVec 1 := Scalar.cmpi .slt c4_i32_23 c0_i32_27
  let v55 : BitVec 32 := Scalar.extui v54
  let v56 : BitVec 32 := Scalar.subi v53 v55
  let v57 : BitVec 1 := Scalar.cmpi .ne v51 v56
  let v58 : BitVec 32 := Scalar.remsi v45 c4_i32_23
  let c0_i32_28 : BitVec 32 := 0#32
  let v59 : BitVec 1 := Scalar.cmpi .ne v58 c0_i32_28
  let v60 : BitVec 1 := Scalar.andi v57 v59
  let v46 : BitVec 32 := Scalar.divsi v45 c4_i32_23
  let c1_i32_29 : BitVec 32 := 1#32
  let v61 : BitVec 32 := Scalar.subi v46 c1_i32_29
  let v62 : BitVec 32 := Scalar.select v60 v61 v46
  let c8_i32_32 : BitVec 32 := 8#32
  let v66 : BitVec 32 := Scalar.addi v34 c8_i32_32
  let c1_i32_33 : BitVec 32 := 1#32
  let v67 : BitVec 32 := Scalar.subi v66 c1_i32_33
  let c8_i32_34 : BitVec 32 := 8#32
  let c0_i32_35 : BitVec 32 := 0#32
  let v68 : BitVec 1 := Scalar.cmpi .eq c8_i32_34 c0_i32_35
  let c1_i32_36 : BitVec 32 := 1#32
  let v69 : BitVec 32 := Scalar.select v68 c1_i32_36 c8_i32_34
  let v70 : BitVec 32 := Scalar.remsi v67 v69
  let c0_i32_38 : BitVec 32 := 0#32
  let v72 : BitVec 1 := Scalar.cmpi .slt v70 c0_i32_38
  let c0_i32_39 : BitVec 32 := 0#32
  let v73 : BitVec 1 := Scalar.cmpi .slt v69 c0_i32_39
  let v74 : BitVec 1 := Scalar.xori v72 v73
  let c0_i32_37 : BitVec 32 := 0#32
  let v71 : BitVec 1 := Scalar.cmpi .ne v70 c0_i32_37
  let v75 : BitVec 1 := Scalar.andi v74 v71
  let v76 : BitVec 32 := Scalar.addi v70 v69
  let v77 : BitVec 32 := Scalar.select v75 v76 v70
  let c0_i32_41 : BitVec 32 := 0#32
  let v79 : BitVec 1 := Scalar.cmpi .sgt v77 c0_i32_41
  let v80 : BitVec 32 := Scalar.extui v79
  let c0_i32_42 : BitVec 32 := 0#32
  let v81 : BitVec 1 := Scalar.cmpi .slt v77 c0_i32_42
  let v82 : BitVec 32 := Scalar.extui v81
  let v83 : BitVec 32 := Scalar.subi v80 v82
  let c4_i32_40 : BitVec 32 := 4#32
  let c0_i32_43 : BitVec 32 := 0#32
  let v84 : BitVec 1 := Scalar.cmpi .sgt c4_i32_40 c0_i32_43
  let v85 : BitVec 32 := Scalar.extui v84
  let c0_i32_44 : BitVec 32 := 0#32
  let v86 : BitVec 1 := Scalar.cmpi .slt c4_i32_40 c0_i32_44
  let v87 : BitVec 32 := Scalar.extui v86
  let v88 : BitVec 32 := Scalar.subi v85 v87
  let v89 : BitVec 1 := Scalar.cmpi .ne v83 v88
  let v90 : BitVec 32 := Scalar.remsi v77 c4_i32_40
  let c0_i32_45 : BitVec 32 := 0#32
  let v91 : BitVec 1 := Scalar.cmpi .ne v90 c0_i32_45
  let v92 : BitVec 1 := Scalar.andi v89 v91
  let v78 : BitVec 32 := Scalar.divsi v77 c4_i32_40
  let c1_i32_46 : BitVec 32 := 1#32
  let v93 : BitVec 32 := Scalar.subi v78 c1_i32_46
  let v94 : BitVec 32 := Scalar.select v92 v93 v78
  let v3971 : BitVec 32 := Scalar.select v3947 v62 v94
  let c16_i32_2563 : BitVec 32 := 16#32
  let v3976 : BitVec 32 := Scalar.muli v3971 c16_i32_2563
  let v3977 : BitVec 32 := Scalar.addi c0_i32_2564 v3976
  let c0_i32_30 : BitVec 32 := 0#32
  let v63 : BitVec 1 := Scalar.cmpi .eq v62 c0_i32_30
  let c7_i32_31 : BitVec 32 := 7#32
  let v64 : BitVec 32 := Scalar.subi c7_i32_31 v45
  let v65 : BitVec 32 := Scalar.select v63 v45 v64
  let c0_i32_47 : BitVec 32 := 0#32
  let v95 : BitVec 1 := Scalar.cmpi .eq v94 c0_i32_47
  let c7_i32_48 : BitVec 32 := 7#32
  let v96 : BitVec 32 := Scalar.subi c7_i32_48 v77
  let v97 : BitVec 32 := Scalar.select v95 v77 v96
  let v3972 : BitVec 32 := Scalar.select v3947 v65 v97
  let c4_i32_2565 : BitVec 32 := 4#32
  let v3978 : BitVec 32 := Scalar.muli v3972 c4_i32_2565
  let v3979 : BitVec 32 := Scalar.addi v3977 v3978
  let c1_i32_2566 : BitVec 32 := 1#32
  let v3980 : BitVec 32 := Scalar.muli v8 c1_i32_2566
  let v3981 : BitVec 32 := Scalar.addi v3979 v3980
  v3981.toNat
def k0_off7 (d0 : Dev nD) (true_2768 : BitVec 1) (c1_i32_2769 : BitVec 32) (c1_i32_2776 : BitVec 32) (c0_i32_2784 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2761 : BitVec 32 := 2#32
  let c0_i32_2762 : BitVec 32 := 0#32
  let v4288 : BitVec 1 := Scalar.cmpi .eq c2_i32_2761 c0_i32_2762
  let c1_i32_2763 : BitVec 32 := 1#32
  let v4289 : BitVec 32 := Scalar.select v4288 c1_i32_2763 c2_i32_2761
  let v4290 : BitVec 32 := Scalar.remsi v8 v4289
  let c0_i32_2765 : BitVec 32 := 0#32
  let v4292 : BitVec 1 := Scalar.cmpi .slt v4290 c0_i32_2765
  let c0_i32_2766 : BitVec 32 := 0#32
  let v4293 : BitVec 1 := Scalar.cmpi .slt v4289 c0_i32_2766
  let v4294 : BitVec 1 := Scalar.xori v4292 v4293
  let c0_i32_2764 : BitVec 32 := 0#32
  let v4291 : BitVec 1 := Scalar.cmpi .ne v4290 c0_i32_2764
  let v4295 : BitVec 1 := Scalar.andi v4294 v4291
  let v4296 : BitVec 32 := Scalar.addi v4290 v4289
  let v4297 : BitVec 32 := Scalar.select v4295 v4296 v4290
  let c1_i32_2767 : BitVec 32 := 1#32
  let v4298 : BitVec 1 := Scalar.cmpi .eq v4297 c1_i32_2767
  let v4299 : BitVec 1 := Scalar.xori true_2768 v4298
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_16 : BitVec 32 := 0#32
  let v32 : BitVec 1 := Scalar.cmpi .eq v2 c0_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v33 : BitVec 32 := Scalar.subi c7_i32 v5
  let v34 : BitVec 32 := Scalar.select v32 v5 v33
  let v4300 : BitVec 32 := Scalar.addi v34 c1_i32_2769
  let c8_i32_2770 : BitVec 32 := 8#32
  let c0_i32_2771 : BitVec 32 := 0#32
  let v4301 : BitVec 1 := Scalar.cmpi .eq c8_i32_2770 c0_i32_2771
  let c1_i32_2772 : BitVec 32 := 1#32
  let v4302 : BitVec 32 := Scalar.select v4301 c1_i32_2772 c8_i32_2770
  let v4303 : BitVec 32 := Scalar.remsi v4300 v4302
  let c0_i32_2774 : BitVec 32 := 0#32
  let v4305 : BitVec 1 := Scalar.cmpi .slt v4303 c0_i32_2774
  let c0_i32_2775 : BitVec 32 := 0#32
  let v4306 : BitVec 1 := Scalar.cmpi .slt v4302 c0_i32_2775
  let v4307 : BitVec 1 := Scalar.xori v4305 v4306
  let c0_i32_2773 : BitVec 32 := 0#32
  let v4304 : BitVec 1 := Scalar.cmpi .ne v4303 c0_i32_2773
  let v4308 : BitVec 1 := Scalar.andi v4307 v4304
  let v4309 : BitVec 32 := Scalar.addi v4303 v4302
  let v4310 : BitVec 32 := Scalar.select v4308 v4309 v4303
  let v4311 : BitVec 32 := Scalar.subi v34 c1_i32_2776
  let c8_i32_2777 : BitVec 32 := 8#32
  let c0_i32_2778 : BitVec 32 := 0#32
  let v4312 : BitVec 1 := Scalar.cmpi .eq c8_i32_2777 c0_i32_2778
  let c1_i32_2779 : BitVec 32 := 1#32
  let v4313 : BitVec 32 := Scalar.select v4312 c1_i32_2779 c8_i32_2777
  let v4314 : BitVec 32 := Scalar.remsi v4311 v4313
  let c0_i32_2781 : BitVec 32 := 0#32
  let v4316 : BitVec 1 := Scalar.cmpi .slt v4314 c0_i32_2781
  let c0_i32_2782 : BitVec 32 := 0#32
  let v4317 : BitVec 1 := Scalar.cmpi .slt v4313 c0_i32_2782
  let v4318 : BitVec 1 := Scalar.xori v4316 v4317
  let c0_i32_2780 : BitVec 32 := 0#32
  let v4315 : BitVec 1 := Scalar.cmpi .ne v4314 c0_i32_2780
  let v4319 : BitVec 1 := Scalar.andi v4318 v4315
  let v4320 : BitVec 32 := Scalar.addi v4314 v4313
  let v4321 : BitVec 32 := Scalar.select v4319 v4320 v4314
  let v4322 : BitVec 32 := Scalar.select v4299 v4310 v4321
  let c512_i32_2783 : BitVec 32 := 512#32
  let v4323 : BitVec 32 := Scalar.muli v4322 c512_i32_2783
  let v4324 : BitVec 32 := Scalar.addi v4323 c0_i32_2784
  let c0_i32_2792 : BitVec 32 := 0#32
  ![v4324.toNat, 0]
def k0_off7_at (r : Fin 8) : BitVec 1 × BitVec 32 × BitVec 32 × BitVec 32 :=
  if r.val < 4 then
    if r.val < 2 then
      if r.val < 1 then
        (1#1, 1#32, 1#32, 0#32)
      else
        (1#1, 2#32, 2#32, 0#32)
    else
      if r.val < 3 then
        (1#1, 1#32, 1#32, 128#32)
      else
        (1#1, 2#32, 2#32, 128#32)
  else
    if r.val < 6 then
      if r.val < 5 then
        (0#1, 1#32, 1#32, 256#32)
      else
        (0#1, 2#32, 2#32, 256#32)
    else
      if r.val < 7 then
        (0#1, 1#32, 1#32, 384#32)
      else
        (0#1, 2#32, 2#32, 384#32)
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x4096x1024, .bf16⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S4096x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ideal.Flat.lean ====
/- The kernel's body as one flat sequence of operations, indexed by the transfers it makes. -/
module

public import proofs.«01_k».proof.Proof.Gen.KernelIdeal
public import proofs.«01_k».proof.Proof.Gen.KernelIdeal.Skeleton

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- The forty transfers a device starts: step `t` and half `u` of the reduce-scatter and of the
    all-gather round `z`, step `t` of the block ring for the chunk `k` places back, and chunk `c`'s
    `j`-th block handed to the other device of the `z` pair. -/
inductive Xfer : Type
  | rs (t : Fin 3) (u : Fin 2)
  | ag (t : Fin 3) (u : Fin 2)
  | sub (k : Fin 4) (t : Fin 5)
  | zz (c : Fin 4) (j : Fin 2)
  deriving DecidableEq

/-- The memrefs the body works on: the staged operand, the staged result and the scratch. -/
abbrev inM : Memref sig .tc .vmem S512x1024 .bf16 := Memref.whole cc0_stg0_0
abbrev outM : Memref sig .tc .vmem S4096x1024 .bf16 := Memref.whole cc0_stg1_0
abbrev tmpM : Memref sig .tc .vmem S3x2x64x1024 .bf16 := Memref.whole cc0_scratch0
theorem inW : (inM).IsWhole := Memref.isWhole_whole _
theorem outW : (outM).IsWhole := Memref.isWhole_whole _
theorem tmpW : (tmpM).IsWhole := Memref.isWhole_whole _

/-- Where in the printed list a transfer's target device stands. -/
def devNo : Xfer → Dev nD → Nat
  | .rs 0 0 => k0_dev5 | .rs 0 1 => k0_dev6 | .rs 1 0 => k0_dev7
  | .rs 1 1 => k0_dev8 | .rs 2 0 => k0_dev9 | .rs 2 1 => k0_dev10
  | .sub 0 0 => k0_dev11
  | .ag 0 0 => k0_dev12 | .ag 0 1 => k0_dev13 | .ag 1 0 => k0_dev14 | .ag 1 1 => k0_dev15
  | .sub 1 0 => k0_dev16
  | .ag 2 0 => k0_dev17 | .ag 2 1 => k0_dev18
  | .sub 2 0 => k0_dev19 | .sub 3 0 => k0_dev20
  | .sub 0 1 => k0_dev21 | .sub 1 1 => k0_dev22 | .sub 2 1 => k0_dev23 | .sub 3 1 => k0_dev24
  | .zz 0 0 => k0_dev25 | .zz 1 0 => k0_dev26 | .zz 2 0 => k0_dev27 | .zz 3 0 => k0_dev28
  | .sub 0 2 => k0_dev29 | .sub 1 2 => k0_dev30 | .sub 2 2 => k0_dev31 | .sub 3 2 => k0_dev32
  | .zz 0 1 => k0_dev33 | .zz 1 1 => k0_dev34 | .zz 2 1 => k0_dev35 | .zz 3 1 => k0_dev36
  | .sub 0 3 => k0_dev37 | .sub 1 3 => k0_dev38 | .sub 2 3 => k0_dev39 | .sub 3 3 => k0_dev40
  | .sub 0 4 => k0_dev41 | .sub 1 4 => k0_dev42 | .sub 2 4 => k0_dev43 | .sub 3 4 => k0_dev44

instance : Fintype Xfer :=
  Fintype.ofList ((List.finRange 3).flatMap (fun t => (List.finRange 2).flatMap fun u => [.rs t u, .ag t u])
    ++ (List.finRange 4).flatMap (fun k => (List.finRange 5).map fun t => .sub k t)
    ++ (List.finRange 4).flatMap (fun k => (List.finRange 2).map fun t => .zz k t))
    (fun x => by cases x <;> simp)

theorem devNo_lt : ∀ x d, devNo x d < nD := by decide +kernel

theorem inbA : ∀ (i : Fin 12) a, (![i.val] : Fin 1 → Nat) a + S1.size a ≤ S12.size a := by decide
theorem inbB : ∀ (i : Fin 20) a, (![i.val] : Fin 1 → Nat) a + S1.size a ≤ S20.size a := by decide
theorem inbZ : ∀ (i : Fin 8) a, (![i.val] : Fin 1 → Nat) a + S1.size a ≤ S8.size a := by decide

/-- A semaphore of an array, as the body names it. -/
def semA (s : DmaSems sig S12) (i : Fin 12) : DmaSem sig :=
  ((s.slice (Rect.unit (s := S12) ![i.val] S1.size (inbA i))).squeeze S_ squeezes_S1_S_).sem
def semB (s : DmaSems sig S20) (i : Fin 20) : DmaSem sig :=
  ((s.slice (Rect.unit (s := S20) ![i.val] S1.size (inbB i))).squeeze S_ squeezes_S1_S_).sem
def semZ (s : DmaSems sig S8) (i : Fin 8) : DmaSem sig :=
  ((s.slice (Rect.unit (s := S8) ![i.val] S1.size (inbZ i))).squeeze S_ squeezes_S1_S_).sem

/-- A transfer's departure and arrival semaphores. -/
def sndSem : Xfer → DmaSem sig
  | .rs t u => semA cc0_scratch1 ⟨2 * t.val + u.val, by omega⟩
  | .ag t u => semA cc0_scratch1 ⟨6 + 2 * t.val + u.val, by omega⟩
  | .sub k t => semB cc0_scratch3 ⟨5 * k.val + t.val, by omega⟩
  | .zz c j => semZ cc0_scratch5 ⟨2 * c.val + j.val, by omega⟩
def rcvSem : Xfer → DmaSem sig
  | .rs t u => semA cc0_scratch2 ⟨2 * t.val + u.val, by omega⟩
  | .ag t u => semA cc0_scratch2 ⟨6 + 2 * t.val + u.val, by omega⟩
  | .sub k t => semB cc0_scratch4 ⟨5 * k.val + t.val, by omega⟩
  | .zz c j => semZ cc0_scratch6 ⟨2 * c.val + j.val, by omega⟩

theorem inbT : ∀ (t : Fin 3) (u : Fin 2) a, (![t.val, u.val, 0, 0] : Fin 4 → Nat) a + S1x1x64x1024.size a ≤ S3x2x64x1024.size a := by
  decide
theorem wordsT : ∀ (t : Fin 3) (u : Fin 2),
    (Rect.unit (s := S3x2x64x1024) ![t.val, u.val, 0, 0] S1x1x64x1024.size (inbT t u)).WholeWords (EltTy.packing .bf16) := by
  decide

/-- The scratch slot of one reduce-scatter step. -/
def slotM (t : Fin 3) (u : Fin 2) : Memref sig .tc .vmem S64x1024 .bf16 :=
  (tmpM.slice (Rect.unit (s := S3x2x64x1024) ![t.val, u.val, 0, 0] S1x1x64x1024.size (inbT t u)) (fun _ => rfl)).squeeze
    S64x1024 squeezes_S1x1x64x1024_S64x1024
theorem slotX (t : Fin 3) (u : Fin 2) : (slotM t u).view.WordExact :=
  (tmpW.wordExact_slice rfl _ (wordsT t u)).reshape _ _

/-- The rows of the result a transfer names. -/
def rsM (d : Dev nD) (t : Fin 3) (u : Fin 2) : Memref sig .tc .vmem S64x1024 .bf16 :=
  outM.slice (Rect.unit (s := S4096x1024) (k0_off2 d (BitVec.ofNat 32 t.val) (BitVec.ofNat 32 (64 * u.val))) S64x1024.size (k0_off2_inb d t u)) (fun _ => rfl)
theorem rsX (d : Dev nD) (t : Fin 3) (u : Fin 2) : (rsM d t u).view.WordExact :=
  outW.wordExact_slice rfl _ (k0_off2_wordsbf16 d t u)
def agM (d : Dev nD) (t : Fin 3) (u : Fin 2) : Memref sig .tc .vmem S64x1024 .bf16 :=
  outM.slice (Rect.unit (s := S4096x1024) (k0_off5 d (BitVec.ofNat 32 t.val) (BitVec.ofNat 32 (64 * u.val))) S64x1024.size (k0_off5_inb d t u)) (fun _ => rfl)
theorem agX (d : Dev nD) (t : Fin 3) (u : Fin 2) : (agM d t u).view.WordExact :=
  outW.wordExact_slice rfl _ (k0_off5_wordsbf16 d t u)
abbrev subNo (k : Fin 4) (t : Fin 5) : Fin 20 := ⟨4 * t.val + k.val, by omega⟩
def subM (d : Dev nD) (k : Fin 4) (t : Fin 5) : Memref sig .tc .vmem S128x1024 .bf16 :=
  outM.slice (Rect.unit (s := S4096x1024) (k0_off4 d (k0_off4_at (subNo k t)).1 (k0_off4_at (subNo k t)).2.1 (k0_off4_at (subNo k t)).2.2.1 (k0_off4_at (subNo k t)).2.2.2) S128x1024.size (k0_off4_inb d (subNo k t))) (fun _ => rfl)
theorem subX (d : Dev nD) (k : Fin 4) (t : Fin 5) : (subM d k t).view.WordExact :=
  outW.wordExact_slice rfl _ (k0_off4_wordsbf16 d (subNo k t))
abbrev zzNo (c : Fin 4) (j : Fin 2) : Fin 8 := ⟨4 * j.val + c.val, by omega⟩
def zzM (d : Dev nD) (c : Fin 4) (j : Fin 2) : Memref sig .tc .vmem S128x1024 .bf16 :=
  outM.slice (Rect.unit (s := S4096x1024) (k0_off6 d (k0_off6_at (zzNo c j)).1 (k0_off6_at (zzNo c j)).2.1 (k0_off6_at (zzNo c j)).2.2.1 (k0_off6_at (zzNo c j)).2.2.2) S128x1024.size (k0_off6_inb d (zzNo c j))) (fun _ => rfl)
theorem zzX (d : Dev nD) (c : Fin 4) (j : Fin 2) : (zzM d c j).view.WordExact :=
  outW.wordExact_slice rfl _ (k0_off6_wordsbf16 d (zzNo c j))
abbrev zwNo (c : Fin 4) (j : Fin 2) : Fin 8 := ⟨2 * c.val + j.val, by omega⟩
def zwM (d : Dev nD) (c : Fin 4) (j : Fin 2) : Memref sig .tc .vmem S128x1024 .bf16 :=
  outM.slice (Rect.unit (s := S4096x1024) (k0_off7 d (k0_off7_at (zwNo c j)).1 (k0_off7_at (zwNo c j)).2.1 (k0_off7_at (zwNo c j)).2.2.1 (k0_off7_at (zwNo c j)).2.2.2) S128x1024.size (k0_off7_inb d (zwNo c j))) (fun _ => rfl)
theorem zwX (d : Dev nD) (c : Fin 4) (j : Fin 2) : (zwM d c j).view.WordExact :=
  outW.wordExact_slice rfl _ (k0_off7_wordsbf16 d (zwNo c j))

/-- A program of the body's. -/
abbrev BP (F : FTy → Type) : Type 1 := Prog (TpuEff nD τ sig (Elt F) Λ₀ .tc) PUnit

/-- Starting a transfer. -/
def sendP (d : Dev nD) : Xfer → BP F
  | .rs t u => Prog.lift (.enqueueDma (rsM d t u) (.remote (Dev.tc (⟨devNo (.rs t u) d, devNo_lt _ d⟩ : Dev nD)) (slotM t u) (.dma (sndSem (.rs t u)))) (.dma (rcvSem (.rs t u))) (rsX d t u) (slotX t u) ⟨⟨rfl, Or.inl rfl⟩, trivial⟩)
  | .ag t u => Prog.lift (.enqueueDma (agM d t u) (.remote (Dev.tc (⟨devNo (.ag t u) d, devNo_lt _ d⟩ : Dev nD)) (agM d t u) (.dma (sndSem (.ag t u)))) (.dma (rcvSem (.ag t u))) (agX d t u) (agX d t u) ⟨⟨rfl, Or.inl rfl⟩, trivial⟩)
  | .sub k t => Prog.lift (.enqueueDma (subM d k t) (.remote (Dev.tc (⟨devNo (.sub k t) d, devNo_lt _ d⟩ : Dev nD)) (subM d k t) (.dma (sndSem (.sub k t)))) (.dma (rcvSem (.sub k t))) (subX d k t) (subX d k t) ⟨⟨rfl, Or.inl rfl⟩, trivial⟩)
  | .zz c j => Prog.lift (.enqueueDma (zzM d c j) (.remote (Dev.tc (⟨devNo (.zz c j) d, devNo_lt _ d⟩ : Dev nD)) (zzM d c j) (.dma (sndSem (.zz c j)))) (.dma (rcvSem (.zz c j))) (zzX d c j) (zzX d c j) ⟨⟨rfl, Or.inl rfl⟩, trivial⟩)

/-- Waiting for the transfer of one's own that arrives. -/
def recvP (d : Dev nD) : Xfer → BP F
  | .rs t u => Prog.lift (.waitDma2 (rcvSem (.rs t u)) (rsM d t u) (slotM t u) (rsX d t u) (slotX t u))
  | .ag t u => Prog.lift (.waitDma2 (rcvSem (.ag t u)) (agM d t u) (agM d t u) (agX d t u) (agX d t u))
  | .sub k t => Prog.lift (.waitDma2 (rcvSem (.sub k t)) (subM d k t) (subM d k t) (subX d k t) (subX d k t))
  | .zz c j => Prog.lift (.waitDma2 (rcvSem (.zz c j)) (zwM d c j) (zwM d c j) (zwX d c j) (zwX d c j))

/-- Waiting for the departure of the transfer one started. -/
def doneP (d : Dev nD) : Xfer → BP F
  | .rs t u => Prog.lift (.waitDma2 (sndSem (.rs t u)) (slotM t u) (rsM d t u) (slotX t u) (rsX d t u))
  | .ag t u => Prog.lift (.waitDma2 (sndSem (.ag t u)) (agM d t u) (agM d t u) (agX d t u) (agX d t u))
  | .sub k t => Prog.lift (.waitDma2 (sndSem (.sub k t)) (subM d k t) (subM d k t) (subX d k t) (subX d k t))
  | .zz c j => Prog.lift (.waitDma2 (sndSem (.zz c j)) (zzM d c j) (zzM d c j) (zzX d c j) (zzX d c j))

/-- The rectangle of the result one reduce-scatter step adds into. -/
abbrev addR (d : Dev nD) (t : Fin 3) (u : Fin 2) : Rect S4096x1024 :=
  Rect.unit (s := S4096x1024) (k0_off3 d (BitVec.ofNat 32 t.val) (BitVec.ofNat 32 (64 * u.val))) S64x1024.size (k0_off3_inb d t u)
abbrev slotR (t : Fin 3) (u : Fin 2) : Rect S3x2x64x1024 :=
  Rect.unit (s := S3x2x64x1024) ![t.val, u.val, 0, 0] S1x1x64x1024.size (inbT t u)

/-- Adding an arrived slot into the result. -/
def addP (d : Dev nD) (t : Fin 3) (u : Fin 2) : BP F := do
  let v : Vec F S64x1024 .bf16 ← Prog.lift (.load outM (addR d t u).toLoadRect (View.loadsAt_vmem h_S64x1024))
  let w : Vec F S1x1x64x1024 .bf16 ← Prog.lift (.load tmpM (slotR t u).toLoadRect (View.loadsAt_vmem h_S1x1x64x1024))
  let _o : Vec F S64x1024 .bf16 ← Prog.lift (.load outM (addR d t u).toLoadRect (View.loadsAt_vmem h_S64x1024))
  Prog.lift (.store outM (addR d t u) (k0_pay2 v w) Finset.univ (View.stores_vmem h_S64x1024 (outW.storeExact_slice rfl _ (k0_off3_packedbf16 d t u)) (fun _ => rfl)) (.inl rfl))

/-- The operations of the body after its opening. -/
inductive Op : Type
  | send (x : Xfer) | recv (x : Xfer) | add (t : Fin 3) (u : Fin 2) | done (x : Xfer)

def opP (d : Dev nD) : Op → BP F
  | .send x => sendP d x
  | .recv x => recvP d x
  | .add t u => addP d t u
  | .done x => doneP d x

/-- The order of the operations. -/
def rsOps : List Op :=
  [.send (.rs 0 0), .send (.rs 0 1),
   .recv (.rs 0 0), .add 0 0, .send (.rs 1 0), .recv (.rs 0 1), .add 0 1, .send (.rs 1 1),
   .recv (.rs 1 0), .add 1 0, .send (.rs 2 0), .recv (.rs 1 1), .add 1 1, .send (.rs 2 1),
   .recv (.rs 2 0), .add 2 0, .recv (.rs 2 1), .add 2 1]
def agOps : List Op :=
  [.send (.sub 0 0), .send (.ag 0 0), .send (.ag 0 1),
   .recv (.ag 0 0), .send (.ag 1 0), .recv (.ag 0 1), .send (.ag 1 1), .send (.sub 1 0),
   .recv (.ag 1 0), .send (.ag 2 0), .recv (.ag 1 1), .send (.ag 2 1), .send (.sub 2 0),
   .recv (.ag 2 0), .recv (.ag 2 1), .send (.sub 3 0)]
def subOps (t t' : Fin 5) : List Op :=
  (List.finRange 4).flatMap fun k => [.recv (.sub k t), .send (.sub k t')]
def zzOps (j : Fin 2) : List Op := (List.finRange 4).map fun c => .send (.zz c j)
def endOps : List Op :=
  ((List.finRange 4).map fun k => .recv (.sub k 4)) ++ ((List.finRange 4).flatMap fun c => [.recv (.zz c 0), .recv (.zz c 1)])
def doneOps : List Op :=
  ((List.finRange 3).flatMap fun t => [.done (.rs t 0), .done (.rs t 1)])
  ++ ((List.finRange 3).flatMap fun t => [.done (.ag t 0), .done (.ag t 1)])
  ++ ((List.finRange 4).flatMap fun k => (List.finRange 5).map fun t => .done (.sub k t))
  ++ ((List.finRange 4).flatMap fun c => [.done (.zz c 0), .done (.zz c 1)])
def ops : List Op :=
  rsOps ++ agOps ++ subOps 0 1 ++ zzOps 0 ++ subOps 1 2 ++ zzOps 1 ++ subOps 2 3 ++ subOps 3 4 ++ endOps ++ doneOps

def runOps (d : Dev nD) : List Op → BP F
  | [] => pure ⟨⟩
  | o :: l => do opP d o; runOps d l

/-- The barrier semaphore. -/
def barS : Sem sig := (SemArray.scalar (sig.barrier 0 rfl) : Sems sig S_).sem

/-- The body's opening: four signals, the wait for four, the operand copied into the device's own block. -/
def openP (d : Dev nD) (rest : BP F) : BP F := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semWaitWord barS 4#32
  let v : Vec F S512x1024 .bf16 ← Prog.lift (.load inM (Rect.unit (s := S512x1024) ![0, 0] S512x1024.size inb_S512x1024_S512x1024_0_0).toLoadRect (View.loadsAt_vmem h_S512x1024))
  let _o : Vec F S512x1024 .bf16 ← Prog.lift (.load outM (Rect.unit (s := S4096x1024) (k0_off1 d) S512x1024.size (k0_off1_inb d)).toLoadRect (View.loadsAt_vmem h_S512x1024))
  Prog.lift (.store outM (Rect.unit (s := S4096x1024) (k0_off1 d) S512x1024.size (k0_off1_inb d)) (k0_pay1 v) Finset.univ (View.stores_vmem h_S512x1024 (outW.storeExact_slice rfl _ (k0_off1_packedbf16 d)) (fun _ => rfl)) (.inl rfl))
  rest

/-- The flat body. -/
def flat : BP F := do
  let d : Dev nD ← Prog.lift .deviceId
  openP d (runOps d ops)

set_option maxRecDepth 65536 in
/-- The printed body is the flat one. -/
theorem body_flat :
    cc0_body (F := F) inM inW outM outW tmpM tmpW cc0_scratch1 cc0_scratch2 cc0_scratch3 cc0_scratch4 cc0_scratch5 cc0_scratch6
      = flat := by
  rw [cc0_body_eq_skeleton]
  rfl

end Cert.KernelIdeal.Ring

end
-- ==== Proof.Ideal.Geometry.lean ====
/- Where the devices stand and which rows of the result each transfer carries. -/
module

public import proofs.«01_k».proof.Proof.Ideal.Flat

@[expose] public section

noncomputable section

namespace Cert.KernelIdeal.Ring

open Idealize.ShloMosaic Idealize.ShloMosaic.TcCoe
open Idealize.SL Idealize.SL.Sem
open Cert.KernelIdeal Cert.KernelIdeal.Gen

/-! ### Devices -/

/-- A device's place on the ring along `z`. -/
def zOf (d : Dev nD) : Fin 4 := ⟨d.val % 4, Nat.mod_lt _ (by decide)⟩
/-- A device's place on the closed walk through the `x`–`y` plane. -/
def pOf (d : Dev nD) : Fin 8 :=
  ⟨if d.val / 16 = 0 then (d.val / 4) % 4 else 7 - (d.val / 4) % 4, by split <;> omega⟩
/-- The device at a place of the walk and a place on the ring. -/
def mk (p : Fin 8) (z : Fin 4) : Dev nD :=
  ⟨if p.val < 4 then 4 * p.val + z.val else 16 + 4 * (7 - p.val) + z.val, by
    have := p.isLt; have := z.isLt; show _ < 32; split <;> omega⟩

theorem zOf_mk : ∀ p z, zOf (mk p z) = z := by decide +kernel
theorem pOf_mk : ∀ p z, pOf (mk p z) = p := by decide +kernel
theorem mk_of : ∀ d, mk (pOf d) (zOf d) = d := by decide +kernel

/-- The partner on the ring with which a device shares the last two steps. -/
def flip (z : Fin 4) : Fin 4 := ![1, 0, 3, 2] z
/-- Whether chunk `ch` travels up the walk at ring place `z`. -/
def fwd (z ch : Fin 4) : Bool := xor (decide (ch.val < 2)) (decide (z.val % 2 = 1))
/-- The block that holds chunk `ch` after `h` steps of the walk. -/
def blk (p : Fin 8) (z ch : Fin 4) (h : Fin 8) : Fin 8 := if fwd z ch then p - h else p + h

/-- The step count of a ring step as a ring place. -/
abbrev c3 (t : Fin 3) : Fin 4 := t.castSucc
/-- The step count of a walk step as a number of blocks. -/
abbrev c5 (t : Fin 5) : Fin 8 := ⟨t.val, by omega⟩

/-- Where on the ring a transfer goes. -/
def tz (z : Fin 4) : Xfer → Fin 4
  | .rs _ _ => z + 1 | .ag _ _ => z + 1 | .sub _ _ => z | .zz _ _ => flip z
/-- Where on the walk a transfer goes. -/
def tp (p : Fin 8) (z : Fin 4) : Xfer → Fin 8
  | .sub k _ => if fwd z (z + 1 - k) then p + 1 else p - 1
  | _ => p
/-- Where on the ring a transfer comes from. -/
def fz (z : Fin 4) : Xfer → Fin 4
  | .rs _ _ => z - 1 | .ag _ _ => z - 1 | .sub _ _ => z | .zz _ _ => flip z
/-- Where on the walk a transfer comes from. -/
def fp (p : Fin 8) (z : Fin 4) : Xfer → Fin 8
  | .sub k _ => if fwd z (z + 1 - k) then p - 1 else p + 1
  | _ => p

/-- The device a transfer goes to, and the one it comes from. -/
def tgt (x : Xfer) (d : Dev nD) : Dev nD := mk (tp (pOf d) (zOf d) x) (tz (zOf d) x)
def frm (x : Xfer) (d : Dev nD) : Dev nD := mk (fp (pOf d) (zOf d) x) (fz (zOf d) x)

theorem devNo_eq : ∀ x d, devNo x d = (tgt x d).val := by decide +kernel
theorem tgt_eq (x : Xfer) (d : Dev nD) : (⟨devNo x d, devNo_lt x d⟩ : Dev nD) = tgt x d := Fin.ext (devNo_eq x d)
theorem tgt_frm : ∀ x d, tgt x (frm x d) = d := by decide +kernel
theorem frm_tgt : ∀ x d, frm x (tgt x d) = d := by decide +kernel

/-- The four devices a device signals at its start: the two ring neighbours, then the two walk
    neighbours. -/
def nbr (i : Fin 4) (d : Dev nD) : Dev nD :=
  mk (![pOf d, pOf d, pOf d + 1, pOf d - 1] i) (![zOf d - 1, zOf d + 1, zOf d, zOf d] i)
theorem nbr0_eq : ∀ d, (⟨k0_dev1 d, k0_dev1_lt d⟩ : Dev nD) = nbr 0 d := by decide +kernel
theorem nbr1_eq : ∀ d, (⟨k0_dev2 d, k0_dev2_lt d⟩ : Dev nD) = nbr 1 d := by decide +kernel
theorem nbr2_eq : ∀ d, (⟨k0_dev3 d, k0_dev3_lt d⟩ : Dev nD) = nbr 2 d := by decide +kernel
theorem nbr3_eq : ∀ d, (⟨k0_dev4 d, k0_dev4_lt d⟩ : Dev nD) = nbr 3 d := by decide +kernel

/-- The neighbour a signal comes from: the signal a device sends to its left reaches it as the one
    from its right. -/
def opp (i : Fin 4) : Fin 4 := ![1, 0, 3, 2] i
theorem nbr_opp : ∀ i d, nbr (opp i) (nbr i d) = d := by decide +kernel
theorem opp_opp : ∀ i, opp (opp i) = i := by decide +kernel

/-! ### Rows -/

/-- The `n` rows of the result from row `a` on. -/
def rows (a n : Nat) : Finset S4096x1024.Idx :=
  Finset.univ.filter fun i => a ≤ (i 0).val ∧ (i 0).val < a + n

theorem mem_rows {a n : Nat} {i : S4096x1024.Idx} : i ∈ rows a n ↔ a ≤ (i 0).val ∧ (i 0).val < a + n := by
  simp [rows]

/-- A rectangle of whole rows is the rows it names. -/
theorem rect_rows (off size : Fin 2 → Nat) (inb : ∀ a, off a + size a ≤ S4096x1024.size a)
    (h0 : off 1 = 0) (h1 : size 1 = 1024) : (Rect.unit (s := S4096x1024) off size inb).set = rows (off 0) (size 0) := by
  ext i
  rw [LoadRect.mem_set, mem_rows, Fin.forall_fin_two]
  have hi := (i 1).isLt
  change (i 1).val < 1024 at hi
  show (∃ j < size 0, (i 0).val = off 0 + 1 * j) ∧ (∃ j < size 1, (i 1).val = off 1 + 1 * j) ↔ _
  constructor
  · rintro ⟨⟨j, hj, e⟩, -⟩; omega
  · rintro ⟨h2, h3⟩
    exact ⟨⟨(i 0).val - off 0, by omega, by omega⟩, ⟨(i 1).val, by omega, by omega⟩⟩

/-- The parts of the result a transfer carries: half of a chunk of a device's own block, or a
    chunk of the block that arrives after some steps of the walk. -/
inductive Piece : Type
  | half (ch : Fin 4) (u : Fin 2)
  | reg (ch : Fin 4) (h : Fin 8)
  deriving DecidableEq

/-- The first row of a part, and how many rows it has. -/
def Piece.row (p : Fin 8) (z : Fin 4) : Piece → Nat
  | .half ch u => 512 * p.val + 128 * ch.val + 64 * u.val
  | .reg ch h => 512 * (blk p z ch h).val + 128 * ch.val
def Piece.cnt : Piece → Nat
  | .half _ _ => 64
  | .reg _ _ => 128
/-- The rows of a part at a device. -/
def Piece.at (d : Dev nD) (w : Piece) : Finset S4096x1024.Idx := rows (w.row (pOf d) (zOf d)) w.cnt

theorem Piece.row_le (p : Fin 8) (z : Fin 4) (w : Piece) : w.row p z + w.cnt ≤ 4096 := by
  cases w with
  | half ch u => have := p.isLt; have := ch.isLt; have := u.isLt; simp only [row, cnt]; omega
  | reg ch h => have := (blk p z ch h).isLt; have := ch.isLt; simp only [row, cnt]; omega

/-! ### The rows the body's offsets name -/

theorem off1_row : ∀ d, k0_off1 d 0 = 512 * (pOf d).val ∧ k0_off1 d 1 = 0 := by decide +kernel
theorem off2_row : ∀ d (t : Fin 3) (u : Fin 2), k0_off2 d (BitVec.ofNat 32 t.val) (BitVec.ofNat 32 (64 * u.val)) 0
      = (Piece.half (zOf d - c3 t) u).row (pOf d) (zOf d)
    ∧ k0_off2 d (BitVec.ofNat 32 t.val) (BitVec.ofNat 32 (64 * u.val)) 1 = 0 := by decide +kernel
theorem off3_row : ∀ d (t : Fin 3) (u : Fin 2), k0_off3 d (BitVec.ofNat 32 t.val) (BitVec.ofNat 32 (64 * u.val)) 0
      = (Piece.half (zOf d - 1 - c3 t) u).row (pOf d) (zOf d)
    ∧ k0_off3 d (BitVec.ofNat 32 t.val) (BitVec.ofNat 32 (64 * u.val)) 1 = 0 := by decide +kernel
theorem off5_row : ∀ d (t : Fin 3) (u : Fin 2), k0_off5 d (BitVec.ofNat 32 t.val) (BitVec.ofNat 32 (64 * u.val)) 0
      = (Piece.half (zOf d + 1 - c3 t) u).row (pOf d) (zOf d)
    ∧ k0_off5 d (BitVec.ofNat 32 t.val) (BitVec.ofNat 32 (64 * u.val)) 1 = 0 := by decide +kernel
theorem off4_row : ∀ d (k : Fin 4) (t : Fin 5), k0_off4 d (k0_off4_at (subNo k t)).1 (k0_off4_at (subNo k t)).2.1 (k0_off4_at (subNo k t)).2.2.1 (k0_off4_at (subNo k t)).2.2.2 0
      = (Piece.reg (zOf d + 1 - k) (c5 t)).row (pOf d) (zOf d)
    ∧ k0_off4 d (k0_off4_at (subNo k t)).1 (k0_off4_at (subNo k t)).2.1 (k0_off4_at (subNo k t)).2.2.1 (k0_off4_at (subNo k t)).2.2.2 1 = 0 := by decide +kernel
theorem off6_row : ∀ d (c : Fin 4) (j : Fin 2), k0_off6 d (k0_off6_at (zzNo c j)).1 (k0_off6_at (zzNo c j)).2.1 (k0_off6_at (zzNo c j)).2.2.1 (k0_off6_at (zzNo c j)).2.2.2 0
      = (Piece.reg c (c5 (j.castLE (by decide) + 1))).row (pOf d) (zOf d)
    ∧ k0_off6 d (k0_off6_at (zzNo c j)).1 (k0_off6_at (zzNo c j)).2.1 (k0_off6_at (zzNo c j)).2.2.1 (k0_off6_at (zzNo c j)).2.2.2 1 = 0 := by decide +kernel
theorem off7_row : ∀ d (c : Fin 4) (j : Fin 2), k0_off7 d (k0_off7_at (zwNo c j)).1 (k0_off7_at (zwNo c j)).2.1 (k0_off7_at (zwNo c j)).2.2.1 (k0_off7_at (zwNo c j)).2.2.2 0
      = (Piece.reg c (7 - j.castLE (by decide))).row (pOf d) (zOf d)
    ∧ k0_off7 d (k0_off7_at (zwNo c j)).1 (k0_off7_at (zwNo c j)).2.1 (k0_off7_at (zwNo c j)).2.2.1 (k0_off7_at (zwNo c j)).2.2.2 1 = 0 := by decide +kernel

/-- The part a transfer reads at its sender, and the part it writes at its receiver. -/
def srcPc (z : Fin 4) : Xfer → Piece
  | .rs t u => .half (z - c3 t) u
  | .ag t u => .half (z + 1 - c3 t) u
  | .sub k t => .reg (z + 1 - k) (c5 t)
  | .zz c j => .reg c (c5 (j.castLE (by decide) + 1))
def dstPc (z : Fin 4) : Xfer → Piece
  | .rs t u => .half (z - 1 - c3 t) u
  | .ag t u => .half (z - c3 t) u
  | .sub k t => .reg (z + 1 - k) (c5 t + 1)
  | .zz c j => .reg c (7 - j.castLE (by decide))

/-- What leaves one device is what arrives at the other: the same rows. -/
theorem src_dst : ∀ x d, (srcPc (zOf d) x).row (pOf d) (zOf d) = (dstPc (zOf (tgt x d)) x).row (pOf (tgt x d)) (zOf (tgt x d)) := by
  decide +kernel

theorem src_dst_at (x : Xfer) (d : Dev nD) : (srcPc (zOf d) x).at d = (dstPc (zOf (tgt x d)) x).at (tgt x d) := by
  rw [Piece.at, Piece.at, src_dst]
  cases x <;> rfl

theorem rsM_set (d : Dev nD) (t : Fin 3) (u : Fin 2) : (rsM d t u).view.set = (srcPc (zOf d) (.rs t u)).at d := by
  have h := off2_row d t u
  refine (View.set_slice_whole _ _).trans ?_
  rw [rect_rows _ _ _ h.2 rfl, h.1]; rfl
theorem agM_set (d : Dev nD) (t : Fin 3) (u : Fin 2) : (agM d t u).view.set = (srcPc (zOf d) (.ag t u)).at d := by
  have h := off5_row d t u
  refine (View.set_slice_whole _ _).trans ?_
  rw [rect_rows _ _ _ h.2 rfl, h.1]; rfl
theorem subM_set (d : Dev nD) (k : Fin 4) (t : Fin 5) : (subM d k t).view.set = (srcPc (zOf d) (.sub k t)).at d := by
  have h := off4_row d k t
  refine (View.set_slice_whole _ _).trans ?_
  rw [rect_rows _ _ _ h.2 rfl, h.1]; rfl
theorem zzM_set (d : Dev nD) (c : Fin 4) (j : Fin 2) : (zzM d c j).view.set = (srcPc (zOf d) (.zz c j)).at d := by
  have h := off6_row d c j
  refine (View.set_slice_whole _ _).trans ?_
  rw [rect_rows _ _ _ h.2 rfl, h.1]; rfl
theorem addR_set (d : Dev nD) (t : Fin 3) (u : Fin 2) : (addR d t u).set = (dstPc (zOf d) (.rs t u)).at d := by
  have h := off3_row d t u
  rw [addR, rect_rows _ _ _ h.2 rfl, h.1]; rfl

end Cert.KernelIdeal.Ring

end
-- ==== Proof.Ideal.Values.lean ====
/- What the result's rows hold along the way, and what a copy or an addition leaves there. -/
module

public import proofs.«01_k».proof.Proof.Ideal.Geometry
public import Idealize.ShloMosaic.Lib.ValueLayout

@[expose] public section

noncomputable section

namespace Cert.KernelIdeal.Ring

open Idealize.ShloMosaic Idealize.ShloMosaic.TcCoe
open Idealize.SL Idealize.SL.Sem
open Idealize.ShloMosaic.ValueIdx
open Cert.KernelIdeal Cert.KernelIdeal.Gen

variable {F : FTy → Type} [FloatOps F]

/-- What a result-shaped buffer holds, and what the scratch holds. -/
abbrev OutC (F : FTy → Type) : Type := S4096x1024.Idx → Elt F .bf16
abbrev TmpC (F : FTy → Type) : Type := S3x2x64x1024.Idx → Elt F .bf16
/-- One addition of the reduce-scatter. -/
def plus (a b : Elt F .bf16) : Elt F .bf16 := FloatOps.addf (F := F) (φ := .bf16) a b

/-- The index of a row and a column. -/
def cell (r : Nat) (hr : r < 4096) (j : Fin 1024) : S4096x1024.Idx := fun | 0 => ⟨r, hr⟩ | 1 => j

theorem idx_ext {i j : S4096x1024.Idx} (h0 : (i 0).val = (j 0).val) (h1 : (i 1).val = (j 1).val) : i = j :=
  funext fun a => by
    match a with
    | 0 => exact Fin.ext h0
    | 1 => exact Fin.ext h1

section
variable (X : Dev nD → OutC F)

/-- The running sum at a device after `n` arrivals: its own operand and those of the `n` devices
    before it on the ring. -/
def acc (d : Dev nD) : Nat → OutC F
  | 0 => X d
  | n + 1 => fun i => plus (X d i) (acc (nbr 0 d) n i)

/-- The device at which a row's sum is completed. -/
def home (i : S4096x1024.Idx) : Dev nD :=
  mk ⟨(i 0).val / 512, by have h := (i 0).isLt; change (i 0).val < 4096 at h; omega⟩ (⟨(i 0).val / 128 % 4, by omega⟩ - 1)

/-- The result: every row's sum over the four ring places. -/
def total : OutC F := fun i => acc X (home i) 3 i

/-- What the scratch of a device holds once everything has arrived. -/
def landed (d : Dev nD) : TmpC F := fun i =>
  acc X (nbr 0 d) (i 0).val (cell ((dstPc (zOf d) (.rs (i 0) (i 1))).row (pOf d) (zOf d) + (i 2).val)
    (by have h := Piece.row_le (pOf d) (zOf d) (dstPc (zOf d) (.rs (i 0) (i 1)))
        have h2 : (i 2).val < 64 := (i 2).isLt
        change _ + 64 ≤ 4096 at h; omega) (i 3))
end

/-- A chunk's sum is complete at the device before it on the ring. -/
theorem total_half (X : Dev nD → OutC F) (d : Dev nD) (u : Fin 2) (i : S4096x1024.Idx)
    (hi : i ∈ (Piece.half (zOf d + 1) u).at d) : total X i = acc X d 3 i := by
  rw [Piece.at, mem_rows] at hi
  simp only [Piece.row, Piece.cnt] at hi
  have hu := u.isLt; have hc := (zOf d + 1).isLt; have hp := (pOf d).isLt
  have h1 : (i 0).val / 512 = (pOf d).val := by omega
  have h2 : (i 0).val / 128 % 4 = (zOf d + 1).val := by omega
  have : home i = d := by
    conv_rhs => rw [← mk_of d]
    unfold home
    congr 1
    · exact Fin.ext h1
    · rw [show (⟨(i 0).val / 128 % 4, by omega⟩ : Fin 4) = zOf d + 1 from Fin.ext h2]
      exact (by decide : ∀ z : Fin 4, z + 1 - 1 = z) (zOf d)
  rw [total, this]

/-! ### A copy -/

/-- Rows copied onto the same rows hold what they held at the source. -/
theorem copy_same {sig : RefSig} {κ : Kind} {sp : Space} {s : Shape} {e : EltTy} (Val : EltTy → Type) (v : View sig κ sp s e)
    (f g : v.ty.Contents Val) (i : v.ty.Idx) (hi : i ∈ v.set) : v.write Val f (v.read Val g) Finset.univ i = g i := by
  obtain ⟨x, -, rfl⟩ := Finset.mem_map.mp hi
  rw [View.write_emb_of_mem _ _ (Finset.mem_univ x), View.read_apply, cast_cast, cast_eq]

/-- The elements of one scratch slot. -/
def slotS (t : Fin 3) (u : Fin 2) : Finset S3x2x64x1024.Idx := Finset.univ.filter fun i => (i 0).val = t.val ∧ (i 1).val = u.val
theorem mem_slotS {t : Fin 3} {u : Fin 2} {i : S3x2x64x1024.Idx} : i ∈ slotS t u ↔ (i 0).val = t.val ∧ (i 1).val = u.val := by
  simp [slotS]

theorem slotR_set (t : Fin 3) (u : Fin 2) : (slotR t u).set = slotS t u := by
  ext i
  rw [LoadRect.mem_set, mem_slotS]
  have h2 : (i 2).val < 64 := (i 2).isLt
  have h3 : (i 3).val < 1024 := (i 3).isLt
  constructor
  · intro h
    obtain ⟨j0, hj0, e0⟩ := h 0
    obtain ⟨j1, hj1, e1⟩ := h 1
    change j0 < 1 at hj0; change j1 < 1 at hj1
    change (i 0).val = t.val + 1 * j0 at e0
    change (i 1).val = u.val + 1 * j1 at e1
    omega
  · rintro ⟨e0, e1⟩ a
    match a with
    | 0 => exact ⟨0, Nat.one_pos, by rw [e0]; rfl⟩
    | 1 => exact ⟨0, Nat.one_pos, by rw [e1]; rfl⟩
    | 2 => exact ⟨(i 2).val, h2, by show _ = 0 + 1 * _; omega⟩
    | 3 => exact ⟨(i 3).val, h3, by show _ = 0 + 1 * _; omega⟩

theorem slotM_set (t : Fin 3) (u : Fin 2) : (slotM t u).view.set = slotS t u :=
  (View.set_reshape _ _).trans ((View.set_slice_whole _ _).trans (slotR_set t u))

/-- Where an element of a slot comes from: its row and column of the copied half. -/
theorem slot_write (d : Dev nD) (t : Fin 3) (u : Fin 2) (g : TmpC F) (f : OutC F) (i : S3x2x64x1024.Idx) (hi : i ∈ slotS t u) (hr) :
    ((slotM t u).view.write (Elt F) g ((rsM d t u).view.read (Elt F) f) Finset.univ : TmpC F) i
      = f (cell ((srcPc (zOf d) (.rs t u)).row (pOf d) (zOf d) + (i 2).val) hr (i 3)) := by
  have hs := mem_slotS.mp hi
  let x : S64x1024.Idx := ix2 (i 2 : Fin 64) (i 3 : Fin 1024)
  have hx : (slotM t u).view.emb x = i := by
    show (slotR t u).emb (Shape.reshapeEquiv _ x) = i
    have e : Shape.reshapeEquiv (squeezes_S1x1x64x1024_S64x1024).numel_eq x
        = (ix4 (⟨0, Nat.one_pos⟩ : Fin 1) (⟨0, Nat.one_pos⟩ : Fin 1) (i 2) (i 3) : S1x1x64x1024.Idx) :=
      reshapeEquiv_ix2_11ab (a := 64) (b := 1024) (squeezes_S1x1x64x1024_S64x1024).numel_eq (i 2) (i 3)
    refine (congrArg _ e).trans ?_
    funext a
    refine Fin.ext ?_
    match a with
    | 0 => show t.val + 1 * 0 = _; rw [hs.1]; rfl
    | 1 => show u.val + 1 * 0 = _; rw [hs.2]; rfl
    | 2 => show 0 + 1 * (i 2).val = _; omega
    | 3 => show 0 + 1 * (i 3).val = _; omega
  have := View.write_emb_of_mem (v := (slotM t u).view) (Val := Elt F) g ((rsM d t u).view.read (Elt F) f) (Finset.mem_univ x)
  rw [hx] at this
  refine this.trans ?_
  show f ((rsM d t u).view.emb x) = _
  congr 1
  have h := off2_row d t u
  refine idx_ext ?_ ?_
  · show k0_off2 d (BitVec.ofNat 32 t.val) (BitVec.ofNat 32 (64 * u.val)) 0 + 1 * (i 2).val = _
    rw [h.1, Nat.one_mul]; rfl
  · show k0_off2 d (BitVec.ofNat 32 t.val) (BitVec.ofNat 32 (64 * u.val)) 1 + 1 * (i 3).val = (i 3).val
    rw [h.2]; omega

theorem nbr_back : ∀ (t : Fin 3) (u : Fin 2) (d : Dev nD), nbr 0 (tgt (.rs t u) d) = d := by decide +kernel

/-- What a slot holds once its copy has landed. -/
theorem slot_landed (X : Dev nD → OutC F) (d : Dev nD) (t : Fin 3) (u : Fin 2) (g : TmpC F) (i : S3x2x64x1024.Idx) (hi : i ∈ slotS t u) :
    ((slotM t u).view.write (Elt F) g ((rsM d t u).view.read (Elt F) (acc X d t.val)) Finset.univ : TmpC F) i
      = landed X (tgt (.rs t u) d) i := by
  have hr : (srcPc (zOf d) (.rs t u)).row (pOf d) (zOf d) + (i 2).val < 4096 := by
    have h := Piece.row_le (pOf d) (zOf d) (srcPc (zOf d) (.rs t u))
    have h2 : (i 2).val < 64 := (i 2).isLt
    change _ + 64 ≤ 4096 at h; omega
  rw [slot_write d t u g _ i hi hr]
  obtain ⟨e0, e1⟩ := mem_slotS.mp hi
  have e0' : i 0 = t := Fin.ext e0
  have e1' : i 1 = u := Fin.ext e1
  have hn : nbr 0 (tgt (.rs t u) d) = d := nbr_back t u d
  unfold landed
  rw [hn, e0]
  congr 1
  refine idx_ext ?_ rfl
  show _ + _ = _ + _
  rw [src_dst (.rs t u) d, e0', e1']

/-! ### An addition -/

/-- One step's addition brings the half to the next running sum. -/
theorem add_value (X : Dev nD → OutC F) (d : Dev nD) (t : Fin 3) (u : Fin 2) (i : S4096x1024.Idx)
    (hi : i ∈ (dstPc (zOf d) (.rs t u)).at d) :
    ((outM.access (addR d t u)).write (Elt F) (acc X d 0)
      (k0_pay2 ((outM.access (addR d t u)).read (Elt F) (acc X d 0)) ((tmpM.access (slotR t u)).read (Elt F) (landed X d))) Finset.univ : OutC F) i
      = acc X d (t.val + 1) i := by
  have hi' : i ∈ (addR d t u).set := by rw [addR_set]; exact hi
  obtain ⟨x, rfl⟩ := LoadRect.exists_idx_of_mem _ hi'
  have := View.write_emb_of_mem (v := outM.access (addR d t u)) (Val := Elt F) (acc X d 0)
    (k0_pay2 ((outM.access (addR d t u)).read (Elt F) (acc X d 0)) ((tmpM.access (slotR t u)).read (Elt F) (landed X d))) (Finset.mem_univ x)
  refine this.trans ?_
  show k0_pay2 _ _ x = plus _ _
  have h1 : ∀ v : Vec F S64x1024 .bf16, shapeCast S64x1024 v shapeCasts_S64x1024_S64x1024 = v := fun v => shapeCast_self _ _
  have hx4 : (⟨4, ![1, 1, 64, 1024]⟩ : Shape).rowMajor (ix4 (⟨0, Nat.one_pos⟩ : Fin 1) (⟨0, Nat.one_pos⟩ : Fin 1) (x 0) (x 1))
      = ((⟨2, ![64, 1024]⟩ : Shape).rowMajor x).val := by
    rw [Shape.rowMajor_val_four, Shape.rowMajor_val_two]
    show (((0 * 1 + 0) * 64 + (x 0).val) * 1024 + (x 1).val) = (x 0).val * 1024 + (x 1).val
    omega
  have h2 : ∀ w : Vec F S1x1x64x1024 .bf16, shapeCast S64x1024 w shapeCasts_S1x1x64x1024_S64x1024 x
      = w (ix4 (⟨0, Nat.one_pos⟩ : Fin 1) (⟨0, Nat.one_pos⟩ : Fin 1) (x 0) (x 1)) := fun w =>
    shapeCast_apply w _ _ _ hx4
  show FloatOps.addf (shapeCast S64x1024 _ shapeCasts_S64x1024_S64x1024 x) (shapeCast S64x1024 _ shapeCasts_S1x1x64x1024_S64x1024 x) = FloatOps.addf _ _
  rw [h1, h2]
  refine congrArg₂ (fun a b : F .bf16 => FloatOps.addf (F := F) (φ := .bf16) a b) rfl ?_
  show landed X d ((slotR t u).idx _) = acc X (nbr 0 d) t.val ((addR d t u).idx x)
  have h := off3_row d t u
  unfold landed
  refine congrArg₂ (fun n i => acc X (nbr 0 d) n i) ?_ ?_
  · show t.val + 1 * 0 = t.val; omega
  · refine idx_ext ?_ ?_
    · show (dstPc (zOf d) (.rs _ _)).row (pOf d) (zOf d) + (0 + 1 * (x 0).val)
        = k0_off3 d (BitVec.ofNat 32 t.val) (BitVec.ofNat 32 (64 * u.val)) 0 + 1 * (x 0).val
      rw [h.1, Nat.zero_add]; rfl
    · show 0 + 1 * (x 1).val = k0_off3 d (BitVec.ofNat 32 t.val) (BitVec.ofNat 32 (64 * u.val)) 1 + 1 * (x 1).val
      rw [h.2]

end Cert.KernelIdeal.Ring

end
-- ==== Proof.Ideal.Sched.lean ====
/- The protocol: which semaphore counts what, and what each arrival hands over. -/
module

public import proofs.«01_k».proof.Proof.Ideal.Values
public import Idealize.ShloMosaic.Lib.Pipeline.Regions
public import Idealize.ShloMosaic.Lib.Pipeline.Kit
public import Idealize.ShloMosaic.Lib.Pipeline.BigSepL
public import Idealize.ShloMosaic.Lib.Rounds
public import Idealize.ShloMosaic.Lib.Pipeline.Launch
public import Idealize.ShloMosaic.Lib.Tactic
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Ghost state: the pipeline's staging copies, and the exchange's rounds with four payers a round. -/
abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ### Cells -/

/-- All transfers, listed. -/
def xfers : List Xfer :=
  ((List.finRange 3).flatMap fun t => (List.finRange 2).map fun u => .rs t u)
  ++ ((List.finRange 3).flatMap fun t => (List.finRange 2).map fun u => .ag t u)
  ++ ((List.finRange 4).flatMap fun k => (List.finRange 5).map fun t => .sub k t)
  ++ ((List.finRange 4).flatMap fun c => (List.finRange 2).map fun j => .zz c j)
theorem xfers_nodup : xfers.Nodup := by decide +kernel
theorem mem_xfers : ∀ x : Xfer, x ∈ xfers := by decide +kernel
theorem univ_xfers : (Finset.univ : Finset Xfer) = xfers.toFinset :=
  (Finset.eq_univ_iff_forall.mpr fun x => List.mem_toFinset.mpr (mem_xfers x)).symm

abbrev barCell (c : Dev nD) : GSem nD τ sig := ((c : Thread nD τ), .reg barS)
abbrev sndCell (c : Dev nD) (x : Xfer) : GSem nD τ sig := ((c : Thread nD τ), .dma (sndSem x))
abbrev rcvCell (c : Dev nD) (x : Xfer) : GSem nD τ sig := ((c : Thread nD τ), .dma (rcvSem x))

/-- What a semaphore counts: the barrier's signals, a transfer's arrival, or its departure. -/
inductive Role : Type
  | bar | rcv (x : Xfer) | snd (x : Xfer)
  deriving DecidableEq

/-- The role of a semaphore number. -/
def roleNo (s : DmaSem sig) : Option Role :=
  match xfers.find? fun x => rcvSem x = s with
  | some x => some (.rcv x)
  | none => (xfers.find? fun x => sndSem x = s).map .snd
def role : SemLoc sig → Option Role
  | .reg s => if s = barS then some .bar else none
  | .dma s => roleNo s

theorem role_bar : role (.reg barS) = some .bar := by simp [role]
theorem role_rcv : ∀ x, role (.dma (rcvSem x)) = some (.rcv x) := by decide +kernel
theorem role_snd : ∀ x, role (.dma (sndSem x)) = some (.snd x) := by decide +kernel

/-- How much a transfer adds to its two semaphores. -/
def amt : Xfer → ℕ
  | .rs _ _ => (slotM 0 0).view.dmaCredit
  | .ag _ _ => (agM 0 0 0).view.dmaCredit
  | .sub _ _ => (subM 0 0 0).view.dmaCredit
  | .zz _ _ => (zzM 0 0 0).view.dmaCredit
theorem amt_pos (x : Xfer) : 0 < amt x := by
  cases x <;> exact View.dmaCredit_pos _ (by decide)

/-! ### What is held -/

variable (X : Dev nD → OutC F)

/-- Rows of a device's result, and elements of its scratch. -/
abbrev outP (c : Dev nD) (S : Finset S4096x1024.Idx) (q : PosShare TreeShare) (f : OutC F) : sProp 𝕄 :=
  (outM.view.loc (c : Thread nD τ)) ↦[(S : Finset outM.view.ty.Idx)]{q} f
abbrev tmpP (c : Dev nD) (S : Finset S3x2x64x1024.Idx) (f : TmpC F) : sProp 𝕄 :=
  (tmpM.view.loc (c : Thread nD τ)) ↦[(S : Finset tmpM.view.ty.Idx)]{fullShare} f

/-- Where a transfer lands at a device, free to be written: a slot of the scratch, nothing (the
    space of a ring step comes with the data before it), or the rows of a block. -/
def room (c : Dev nD) : Xfer → sProp 𝕄
  | .rs t u => iprop(∃ f, tmpP c (slotS t u) f)
  | .ag _ _ => iprop(emp)
  | x => iprop(∃ f, outP c ((dstPc (zOf c) x).at c) fullShare f)

/-- What a device may hold of memory: `own` half a chunk of its own block at the running sum after
    so many arrivals; `sh` a part of the result at its total, one of two shares; `peer` half a chunk
    of the block of another device of its ring, free; `dst` the room for a transfer it will start;
    `slot` a scratch slot after its arrival. -/
inductive Mem : Type
  | own (ch : Fin 4) (u : Fin 2) (n : Nat)
  | sh (w : Piece) (l : Bool)
  | peer (z : Fin 4) (ch : Fin 4) (u : Fin 2)
  | dst (x : Xfer)
  | slot (t : Fin 3) (u : Fin 2)
  deriving DecidableEq

/-- One of the two shares. -/
abbrev hf (l : Bool) : PosShare TreeShare := if l then fullShare.left else fullShare.right

/-- What an entry stands for at a device. -/
def memP (c : Dev nD) : Mem → sProp 𝕄
  | .own ch u n => outP c ((Piece.half ch u).at c) fullShare (acc X c n)
  | .sh w l => outP c (w.at c) (hf l) (total X)
  | .peer z ch u => iprop(∃ f, outP (mk (pOf c) z) ((Piece.half ch u).at (mk (pOf c) z)) fullShare f)
  | .dst x => room (tgt x c) x
  | .slot t u => tmpP c (slotS t u) (landed X c)

/-- What the arrival of a transfer hands over, at ring place `z`. -/
def arrives (z : Fin 4) : Xfer → List Mem
  | .rs t u => .slot t u :: ((List.range (t.val + 1)).map fun s => .peer (z - 1 - Fin.ofNat 4 s) (z - 1 - c3 t) u)
  | .ag t u => .sh (.half (z - c3 t) u) true :: .sh (.half (z - c3 t) u) false
      :: ((List.range (2 - t.val)).map fun s => .peer (z + 1 + Fin.ofNat 4 s) (z - c3 t) u)
  | x => [.sh (dstPc z x) true, .sh (dstPc z x) false]

/-- What the departure of a transfer gives back. -/
def departs (z : Fin 4) : Xfer → List Mem
  | .rs _ _ => []
  | .ag t u => [.sh (srcPc z (.ag t u)) false]
  | .sub k t => [.sh (srcPc z (.sub k t)) true]
  | .zz c j => [.sh (srcPc z (.zz c j)) false]

/-- Which neighbour a transfer goes to, and which it comes from. -/
def toNbr (z : Fin 4) : Xfer → Fin 4
  | .rs _ _ => 1 | .ag _ _ => 1
  | .sub k _ => if fwd z (z + 1 - k) then 2 else 3
  | .zz _ _ => if z.val % 2 = 0 then 1 else 0
def fromNbr (z : Fin 4) : Xfer → Fin 4
  | .rs _ _ => 0 | .ag _ _ => 0
  | .sub k _ => if fwd z (z + 1 - k) then 3 else 2
  | .zz _ _ => if z.val % 2 = 0 then 1 else 0
theorem tgt_nbr : ∀ x c, tgt x c = nbr (toNbr (zOf c) x) c := by decide +kernel
theorem frm_nbr : ∀ x c, frm x c = nbr (fromNbr (zOf c) x) c := by decide +kernel
theorem to_from : ∀ x c i, toNbr (zOf (nbr i c)) x = opp i ↔ fromNbr (zOf c) x = i := by decide +kernel

/-- What the signal of neighbour `i` hands over: the room there for the transfers that go to it,
    and that its arrival semaphores for them are ready. -/
def barPay (c : Dev nD) (i : Fin 4) : sProp 𝕄 :=
  bigSep (Finset.univ.filter fun x => toNbr (zOf c) x = i) fun x =>
    iprop(room (tgt x c) x ∗ reached ER (rcvCell (tgt x c) x) 0)

instance room_storable (c : Dev nD) (x : Xfer) : BI.Storable (upEmb : UEmb _ 𝕄) (room (F := F) c x) := by
  cases x <;> (unfold room; infer_instance)
instance memP_storable (c : Dev nD) (a : Mem) : BI.Storable (upEmb : UEmb _ 𝕄) (memP X c a) := by
  cases a <;> (unfold memP; infer_instance)
instance barPay_storable (c : Dev nD) (i : Fin 4) : BI.Storable (upEmb : UEmb _ 𝕄) (barPay (F := F) c i) := by
  unfold barPay; infer_instance
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => rw [bigSepL_nil]; exact (inferInstance : BI.Storable (upEmb : UEmb _ 𝕄) (iprop(emp) : sProp 𝕄))
  | cons i l ih => rw [bigSepL_cons']; infer_instance

/-- What an arrival hands a semaphore of the given role. -/
def payOf (c : Dev nD) (i : Fin 4) : Role → sProp 𝕄
  | .bar => barPay c i
  | .rcv x => bigSepL (arrives (zOf c) x) (memP X c)
  | .snd x => bigSepL (departs (zOf c) x) (memP X c)

instance payOf_storable (c : Dev nD) (i : Fin 4) (r : Role) : BI.Storable (upEmb : UEmb _ 𝕄) (payOf X c i r) := by
  cases r
  · show BI.Storable _ (barPay c i); infer_instance
  · exact bigSepL_storable _ _ fun _ => inferInstance
  · exact bigSepL_storable _ _ fun _ => inferInstance

/-- The schedule: one round on every semaphore; four payers on a barrier, one elsewhere. -/
def Rd : Rounds.Schedule (GSem nD τ sig) (Fin 4) 𝕄 where
  duties g r := if r = 0 ∧ g.1.2 = .tc then (match role g.2 with | none => ∅ | some .bar => Finset.univ | some _ => {0}) else ∅
  unitless _ := False
  amount g _ _ := match role g.2 with | some (.rcv x) => amt x | some (.snd x) => amt x | _ => 1
  payload g _ i := match role g.2 with | none => iprop(emp) | some r => payOf X g.1.1 i r
  amount_pos g _ _ _ := by
    split
    · exact amt_pos _
    · exact amt_pos _
    · exact Nat.one_pos

instance Rd_storable (g : GSem nD τ sig) (r : ℕ) (d : Fin 4) : BI.Storable (upEmb : UEmb _ 𝕄) ((Rd X).payload g r d) := by
  show BI.Storable upEmb (match role g.2 with | none => iprop(emp) | some r => payOf X g.1.1 d r)
  split <;> infer_instance

variable (c : Dev nD) (x : Xfer)

theorem duties_bar : (Rd X).duties (barCell c) 0 = Finset.univ := by
  dsimp only [Rd]; rw [if_pos ⟨rfl, rfl⟩, role_bar]
theorem duties_rcv : (Rd X).duties (rcvCell c x) 0 = {0} := by
  dsimp only [Rd]; rw [if_pos ⟨rfl, rfl⟩, role_rcv]
theorem duties_snd : (Rd X).duties (sndCell c x) 0 = {0} := by
  dsimp only [Rd]; rw [if_pos ⟨rfl, rfl⟩, role_snd]
theorem duties_later (g : GSem nD τ sig) : ∀ r, 0 + 1 ≤ r → (Rd X).duties g r = ∅ := fun r hr => by
  dsimp only [Rd]; rw [if_neg (fun h => by omega)]

theorem amount_bar (i : Fin 4) : (Rd X).amount (barCell c) 0 i = 1 := by dsimp only [Rd]; rw [role_bar]
theorem amount_rcv (i : Fin 4) : (Rd X).amount (rcvCell c x) 0 i = amt x := by dsimp only [Rd]; rw [role_rcv]
theorem amount_snd (i : Fin 4) : (Rd X).amount (sndCell c x) 0 i = amt x := by dsimp only [Rd]; rw [role_snd]

theorem expect_bar : (Rd X).expect (barCell c) 0 = 4 := by
  unfold Schedule.expect Schedule.amountOf
  rw [duties_bar, Finset.sum_congr rfl fun i _ => amount_bar X c i]; rfl
theorem expect_rcv : (Rd X).expect (rcvCell c x) 0 = amt x := by
  unfold Schedule.expect Schedule.amountOf; rw [duties_rcv, Finset.sum_singleton, amount_rcv]
theorem expect_snd : (Rd X).expect (sndCell c x) 0 = amt x := by
  unfold Schedule.expect Schedule.amountOf; rw [duties_snd, Finset.sum_singleton, amount_snd]

theorem payload_bar (i : Fin 4) : (Rd X).payload (barCell c) 0 i = barPay c i := by
  dsimp only [Rd]; rw [role_bar]; rfl
theorem payload_rcv (i : Fin 4) : (Rd X).payload (rcvCell c x) 0 i = bigSepL (arrives (zOf c) x) (memP X c) := by
  dsimp only [Rd]; rw [role_rcv]; rfl
theorem payload_snd (i : Fin 4) : (Rd X).payload (sndCell c x) 0 i = bigSepL (departs (zOf c) x) (memP X c) := by
  dsimp only [Rd]; rw [role_snd]; rfl

theorem rest_rcv : bigSep ((Rd X).duties (rcvCell c x) 0 \ ∅) (fun u => (Rd X).payload (rcvCell c x) 0 u) = bigSepL (arrives (zOf c) x) (memP X c) := by
  rw [Finset.sdiff_empty, duties_rcv, bigSep_singleton, payload_rcv]
theorem rest_snd : bigSep ((Rd X).duties (sndCell c x) 0 \ ∅) (fun u => (Rd X).payload (sndCell c x) 0 u) = bigSepL (departs (zOf c) x) (memP X c) := by
  rw [Finset.sdiff_empty, duties_snd, bigSep_singleton, payload_snd]
/-- The four signals together: the room for every transfer. -/
theorem rest_bar : bigSep ((Rd X).duties (barCell c) 0 \ ∅) (fun u => (Rd X).payload (barCell c) 0 u)
    = bigSep Finset.univ fun x : Xfer => iprop(room (tgt x c) x ∗ reached ER (rcvCell (tgt x c) x) 0) := by
  rw [Finset.sdiff_empty, duties_bar, bigSep_congr fun i _ => payload_bar X c i]
  unfold barPay
  have hU : (Finset.univ : Finset Xfer) = Finset.univ.biUnion fun i : Fin 4 => Finset.univ.filter fun x => toNbr (zOf c) x = i := by
    ext x; simp
  conv_rhs => rw [hU]
  exact (bigSep_biUnion_eq _ _ _ fun i _ j _ hij => Finset.disjoint_filter.mpr fun x _ hx hy => hij (hx.symm.trans hy)).symm

end Cert.KernelIdeal.Ring

end
-- ==== Proof.Ideal.Atoms.lean ====
/- What a device holds between two operations of the body, as a list, and what each operation needs
   and leaves. -/
module

public import proofs.«01_k».proof.Proof.Ideal.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ### Lists of resources -/

theorem bigSepL_perm' {I : Type} {l l' : List I} (h : l.Perm l') (Φ : I → sProp 𝕄) : bigSepL l Φ ⊢ bigSepL l' Φ := by
  induction h with
  | nil => exact .rfl
  | cons a _ ih => rw [bigSepL_cons', bigSepL_cons']; exact sep_mono_right ih
  | swap a b l =>
    rw [bigSepL_cons', bigSepL_cons', bigSepL_cons', bigSepL_cons']
    iintro ⟨H1, H2, H3⟩
    isplitl [H2]; · iexact H2
    isplitl [H1]; · iexact H1
    iexact H3
  | trans _ _ h1 h2 => exact h1.trans h2

theorem bigSepL_congr' {I : Type} (l : List I) {Φ Ψ : I → sProp 𝕄} (h : ∀ i ∈ l, Φ i = Ψ i) : bigSepL l Φ = bigSepL l Ψ := by
  induction l with
  | nil => rfl
  | cons a l ih =>
    rw [bigSepL_cons', bigSepL_cons', h a (List.mem_cons_self ..), ih fun i hi => h i (List.mem_cons_of_mem _ hi)]

/-- Taking the entries of a list out of another. -/
def takeOut {A : Type} [DecidableEq A] : List A → List A → Option (List A)
  | [], S => some S
  | a :: l, S => if a ∈ S then takeOut l (S.erase a) else none

theorem takeOut_perm {A : Type} [DecidableEq A] : ∀ (l S : List A) {S' : List A}, takeOut l S = some S' → S.Perm (l ++ S')
  | [], S, S', h => by simp only [takeOut, Option.some.injEq] at h; subst h; exact .refl _
  | a :: l, S, S', h => by
    simp only [takeOut] at h
    split at h
    · rename_i ha
      exact (List.perm_cons_erase ha).trans ((takeOut_perm l _ h).cons a)
    · exact absurd h (by simp)

theorem bigSepL_takeOut {A : Type} [DecidableEq A] {l S S' : List A} (h : takeOut l S = some S') (Φ : A → sProp 𝕄) :
    bigSepL S Φ ⊢ iprop(bigSepL l Φ ∗ bigSepL S' Φ) :=
  (bigSepL_perm' (takeOut_perm l S h) Φ).trans (Entails.of_eq (bigSepL_append l S' Φ))

/-! ### Order of the waits -/

/-- The arrivals in the order in which the body waits for them. -/
def arrivals : List Xfer := ops.filterMap fun | .recv x => some x | _ => none
/-- The place of an arrival in that order. -/
def place (x : Xfer) : Nat := arrivals.idxOf x

def L (g : GSem nD τ sig) : Finset Unit := if g.1.2 = .tc then {()} else ∅
def lv (g : GSem nD τ sig) (_ : Unit) : ℕ :=
  match role g.2 with | some .bar => 1 | some (.rcv x) => place x + 2 | _ => 0

theorem L_tc (c : Dev nD) (sm : SemLoc sig) : L ((c : Thread nD τ), sm) = {()} := if_pos rfl
theorem lv_bar (c : Dev nD) : lv (barCell c) () = 1 := by dsimp only [lv]; rw [role_bar]
theorem lv_rcv (c : Dev nD) (x : Xfer) : lv (rcvCell c x) () = place x + 2 := by dsimp only [lv]; rw [role_rcv]

/-- What a device owes while the listed transfers remain to be started. -/
def dues (c : Dev nD) : List Xfer → CellTallies nD τ sig Unit
  | [] => 0
  | x :: l => dues c l + tallyAt (rcvCell (tgt x c) x) () (amt x)

theorem dues_pos {c : Dev nD} {g : GSem nD τ sig} {u : Unit} : ∀ {l : List Xfer}, 0 < dues c l g u → ∃ x ∈ l, g = rcvCell (tgt x c) x
  | [], h => absurd h (Nat.lt_irrefl 0)
  | x :: l, h => by
    simp only [dues, Pi.add_apply, Finsupp.add_apply] at h
    by_cases hg : g = rcvCell (tgt x c) x
    · exact ⟨x, List.mem_cons_self .., hg⟩
    · rw [tallyAt_apply, if_neg (fun e => hg e.1), Nat.add_zero] at h
      obtain ⟨y, hy, e⟩ := dues_pos h
      exact ⟨y, List.mem_cons_of_mem _ hy, e⟩

theorem mayWait_rcv (c : Dev nD) (x : Xfer) (l : List Xfer) (h : ∀ y ∈ l, place x < place y) :
    (levAts L lv : sProp 𝕄) ⊢ MayWait (c : Thread nD τ) (.dma (rcvSem x)) () (dues c l) :=
  MayOwe.of_cut (L := L) (lev := lv) (place x + 2)
    (fun p hp => by rw [Finset.mem_singleton.mp hp, L_tc]; exact Finset.mem_singleton_self _)
    (fun g u hg => by obtain ⟨y, -, rfl⟩ := dues_pos hg; rw [L_tc]; exact Finset.mem_singleton_self _)
    (fun p hp => by rw [Finset.mem_singleton.mp hp]; exact (lv_rcv c x).le)
    (fun g u hg => by obtain ⟨y, hy, rfl⟩ := dues_pos hg; rw [lv_rcv]; have := h y hy; omega)

theorem mayWait_bar (c : Dev nD) (l : List Xfer) :
    (levAts L lv : sProp 𝕄) ⊢ MayWait (c : Thread nD τ) (.reg barS) () (dues c l) :=
  MayOwe.of_cut (L := L) (lev := lv) 1
    (fun p hp => by rw [Finset.mem_singleton.mp hp, L_tc]; exact Finset.mem_singleton_self _)
    (fun g u hg => by obtain ⟨y, -, rfl⟩ := dues_pos hg; rw [L_tc]; exact Finset.mem_singleton_self _)
    (fun p hp => by rw [Finset.mem_singleton.mp hp]; exact (lv_bar c).le)
    (fun g u hg => by obtain ⟨y, hy, rfl⟩ := dues_pos hg; rw [lv_rcv]; omega)

/-! ### Entries -/

/-- What a device may hold: memory; the right to start a transfer; what it waits for an arrival
    with; its position at a departure; the credit of a departure; the spent positions. -/
inductive Atom : Type
  | mem (a : Mem) | tok (x : Xfer) | rcv (x : Xfer) | pos (x : Xfer) | crd (x : Xfer) | fin (x : Xfer) | finS (x : Xfer)
  deriving DecidableEq

variable (X : Dev nD → OutC F)

def atomP (c : Dev nD) : Atom → sProp 𝕄
  | .mem a => memP X c a
  | .tok x => iprop(dutyTok ER (rcvCell (tgt x c) x) 0 0 ∗ reached ER (rcvCell (tgt x c) x) 0
      ∗ dutyTok ER (sndCell c x) 0 0 ∗ reached ER (sndCell c x) 0)
  | .rcv x => iprop(atPos ER (rcvCell c x) 0 ∅ 0 ∗ cred (tallyAt (rcvCell c x) () (amt x)))
  | .pos x => atPos ER (sndCell c x) 0 ∅ 0
  | .crd x => cred (tallyAt (sndCell c x) () (amt x))
  | .fin x => atPos ER (rcvCell c x) (0 + 1) ∅ 0
  | .finS x => atPos ER (sndCell c x) (0 + 1) ∅ 0

/-- What a device owes, after some waits. -/
def oweP (c : Dev nD) (l : List Xfer) : sProp 𝕄 := iprop(∃ W, owes (c : Thread nD τ) (dues c l) W)

theorem bigSepL_mem (c : Dev nD) (l : List Mem) : bigSepL (l.map .mem) (atomP X c) = bigSepL l (memP X c) := by
  induction l with
  | nil => rfl
  | cons a l ih => rw [List.map_cons, bigSepL_cons', bigSepL_cons', ih]; rfl

/-! ### Cells known to all -/

def barEmb : Dev nD ↪ GSem nD τ sig := ⟨barCell, fun a b h => by
  have := congrArg (fun g : GSem nD τ sig => g.1.1) h; exact this⟩
/-- The cells of the transfers: arrival and departure. -/
def scCell (p : Dev nD × Xfer × Bool) : GSem nD τ sig := if p.2.2 then rcvCell p.1 p.2.1 else sndCell p.1 p.2.1
theorem scCell_role : ∀ p : Dev nD × Xfer × Bool, role (scCell p).2 = some (if p.2.2 then .rcv p.2.1 else .snd p.2.1)
  | (c, x, true) => role_rcv x
  | (c, x, false) => role_snd x
theorem scCell_dev (p : Dev nD × Xfer × Bool) : (scCell p).1.1 = p.1 := by
  obtain ⟨c, x, b⟩ := p; cases b <;> rfl
def scEmb : Dev nD × Xfer × Bool ↪ GSem nD τ sig := ⟨scCell, fun a b h => by
  have h1 := congrArg (fun g : GSem nD τ sig => g.1.1) h
  have h2 := congrArg (fun g : GSem nD τ sig => role g.2) h
  simp only [scCell_role, scCell_dev] at h1 h2
  obtain ⟨c, x, i⟩ := a
  obtain ⟨c', x', j⟩ := b
  cases i <;> cases j <;> simp_all⟩

def barCells : Finset (GSem nD τ sig) := Finset.univ.map barEmb
def scCells : Finset (GSem nD τ sig) := Finset.univ.map scEmb

theorem mem_bar (c : Dev nD) : barCell c ∈ barCells ∪ scCells :=
  Finset.mem_union_left _ (Finset.mem_map.mpr ⟨c, Finset.mem_univ _, rfl⟩)
theorem mem_rcv (c : Dev nD) (x : Xfer) : rcvCell c x ∈ barCells ∪ scCells :=
  Finset.mem_union_right _ (Finset.mem_map.mpr ⟨(c, x, true), Finset.mem_univ _, rfl⟩)
theorem mem_snd (c : Dev nD) (x : Xfer) : sndCell c x ∈ barCells ∪ scCells :=
  Finset.mem_union_right _ (Finset.mem_map.mpr ⟨(c, x, false), Finset.mem_univ _, rfl⟩)

/-- The levels of all cells. -/
def Levs (F : FTy → Type) [FloatOps F] : sProp (MT nD τ sig Unit (Elt F) ℕ UU ℕ) := levAts L lv
instance Levs_persistent : BI.Persistent (Levs F) := by unfold Levs; infer_instance

/-- What every device knows: every cell's invariant, and the levels. -/
def Known (K : GSem nD τ sig → ℕ) : sProp 𝕄 :=
  iprop((bigSep (barCells ∪ scCells) fun g => cellInv ER (Rd X) (K g) g) ∗ Levs F)

instance Known_persistent (K : GSem nD τ sig → ℕ) : BI.Persistent (Known X K) := by unfold Known; infer_instance

theorem known_inv (K : GSem nD τ sig → ℕ) {g : GSem nD τ sig} (hg : g ∈ barCells ∪ scCells) : Known X K ⊢ cellInv ER (Rd X) (K g) g := by
  have h : (bigSep (barCells ∪ scCells) fun g => cellInv ER (Rd X) (K g) g) ⊢ (cellInv ER (Rd X) (K g) g : sProp 𝕄) := bigSep_elim hg
  unfold Known
  iintro ⟨H, -⟩
  iapply h $$ H
theorem known_lev (K : GSem nD τ sig → ℕ) : Known X K ⊢ Levs F := by
  unfold Known; iintro ⟨-, H⟩; iexact H

/-! ### What an operation needs and leaves -/

/-- The memory a transfer is started with. -/
def needs (z : Fin 4) : Xfer → List Mem
  | .rs t u => .own (z - c3 t) u t.val :: .dst (.rs t u) :: ((List.range t.val).map fun s => .peer (z - 1 - Fin.ofNat 4 s) (z - c3 t) u)
  | .ag t u => .sh (.half (z + 1 - c3 t) u) false :: .peer (z + 1) (z + 1 - c3 t) u
      :: ((List.range (2 - t.val)).map fun s => .peer (z + 2 + Fin.ofNat 4 s) (z + 1 - c3 t) u)
  | .sub k 0 => [.sh (.half (z + 1 - k) 0) true, .sh (.half (z + 1 - k) 1) true, .dst (.sub k 0)]
  | .sub k t => [.sh (srcPc z (.sub k t)) true, .dst (.sub k t)]
  | .zz c j => [.sh (srcPc z (.zz c j)) false, .dst (.zz c j)]

/-- What an operation takes, what it leaves, and which transfers then remain to be started. -/
def step (z : Fin 4) : Op → List Xfer → Option (List Atom × List Atom × List Xfer)
  | .send x, l => match l with
    | [] => none
    | y :: l' => if y = x then some (.tok x :: (needs z x).map .mem, [.crd x], l') else none
  | .recv x, l => if ∀ y ∈ l, place x < place y then some ([.rcv x], .fin x :: (arrives z x).map .mem, l) else none
  | .add t u, l => some ([.mem (.own (z - 1 - c3 t) u 0), .mem (.slot t u)],
      (if t = 2 then [.mem (.sh (.half (z + 1) u) true), .mem (.sh (.half (z + 1) u) false)] else [.mem (.own (z - 1 - c3 t) u (t.val + 1))])
        ++ [.mem (.slot t u)], l)
  | .done x, l => if l = [] then some ([.crd x, .pos x], .finS x :: (departs z x).map .mem, l) else none

/-- Running the operations on a list of entries. -/
def run (z : Fin 4) : List Op → List Xfer → List Atom → Option (List Xfer × List Atom)
  | [], l, S => some (l, S)
  | o :: os, l, S => match step z o l with
    | none => none
    | some (pre, post, l') => match takeOut pre S with
      | none => none
      | some S' => run z os l' (post ++ S')

/-- The transfers in the order in which they are started. -/
def sends : List Xfer := ops.filterMap fun | .send x => some x | _ => none

/-- What a device holds after the opening. -/
def start (z : Fin 4) : List Atom :=
  xfers.map .tok ++ xfers.map .rcv ++ xfers.map .pos
  ++ ((List.finRange 4).flatMap fun ch => (List.finRange 2).map fun u => .mem (.own ch u 0))
  ++ (xfers.filter fun x => !(x matches .ag ..)).map fun x => .mem (.dst x)

/-- What it holds at the end. -/
def finish (z : Fin 4) : List Atom :=
  xfers.map .fin ++ xfers.map .finS
  ++ ((List.finRange 3).flatMap fun t => (List.finRange 2).map fun u => .mem (.slot t u))
  ++ ((List.finRange 4).map fun ch => .mem (.sh (.reg ch 0) true))
  ++ ((List.finRange 4).flatMap fun ch => (List.finRange 2).map fun u => .mem (.sh (.half ch u) false))
  ++ ((List.finRange 4).flatMap fun ch => ((List.finRange 7).map fun h => .mem (.sh (.reg ch h.succ) true)))
  ++ ((List.finRange 4).flatMap fun ch => ((List.finRange 7).map fun h => .mem (.sh (.reg ch h.succ) false)))

end Cert.KernelIdeal.Ring

end
-- ==== Proof.Ideal.Steps.lean ====
/- Each operation of the body does what its entry in the list says. -/
module

public import proofs.«01_k».proof.Proof.Ideal.Atoms

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (X : Dev nD → OutC F) (K : GSem nD τ sig → ℕ) (c : Dev nD)

/-- The weakest precondition of a program of the body at a device. -/
abbrev wpB (c : Dev nD) (e : BP F) (Q : PUnit → sProp 𝕄) : sProp 𝕄 :=
  wp frame (wpE (defs₀ (F := F)) 𝒱₀ (c : Thread nD τ) none) Set.univ e Q

/-! ### Starting a transfer -/

/-- Starting a transfer to a given device. -/
def sendTo (d e : Dev nD) : Xfer → BP F
  | .rs t u => Prog.lift (.enqueueDma (rsM d t u) (.remote (Dev.tc e) (slotM t u) (.dma (sndSem (.rs t u)))) (.dma (rcvSem (.rs t u))) (rsX d t u) (slotX t u) ⟨⟨rfl, Or.inl rfl⟩, trivial⟩)
  | .ag t u => Prog.lift (.enqueueDma (agM d t u) (.remote (Dev.tc e) (agM d t u) (.dma (sndSem (.ag t u)))) (.dma (rcvSem (.ag t u))) (agX d t u) (agX d t u) ⟨⟨rfl, Or.inl rfl⟩, trivial⟩)
  | .sub k t => Prog.lift (.enqueueDma (subM d k t) (.remote (Dev.tc e) (subM d k t) (.dma (sndSem (.sub k t)))) (.dma (rcvSem (.sub k t))) (subX d k t) (subX d k t) ⟨⟨rfl, Or.inl rfl⟩, trivial⟩)
  | .zz c j => Prog.lift (.enqueueDma (zzM d c j) (.remote (Dev.tc e) (zzM d c j) (.dma (sndSem (.zz c j)))) (.dma (rcvSem (.zz c j))) (zzX d c j) (zzX d c j) ⟨⟨rfl, Or.inl rfl⟩, trivial⟩)
theorem sendP_eq (d : Dev nD) (x : Xfer) : sendP (F := F) d x = sendTo d (tgt x d) x := by
  rw [← tgt_eq]; cases x <;> rfl

theorem in_rcv (e : Dev nD) (x : Xfer) : (0 : Fin 4) ∈ (Rd X).duties (rcvCell e x) 0 := by
  rw [duties_rcv]; exact Finset.mem_singleton_self _
theorem in_snd (e : Dev nD) (x : Xfer) : (0 : Fin 4) ∈ (Rd X).duties (sndCell e x) 0 := by
  rw [duties_snd]; exact Finset.mem_singleton_self _

/-- What every start needs besides memory, and what it leaves. -/
def sendPre (x : Xfer) (l : List Xfer) : sProp 𝕄 :=
  iprop(Known X K ∗ oweP c (x :: l) ∗ atomP X c (.tok x))
def sendPost (x : Xfer) (l : List Xfer) : sProp 𝕄 := iprop(atomP X c (.crd x) ∗ oweP c l)

theorem peer_at {c e : Dev nD} (h : pOf c = pOf e) (z ch : Fin 4) (u : Fin 2) : memP X c (.peer z ch u) = memP X e (.peer z ch u) := by
  unfold memP; rw [h]
theorem peers_at {c e : Dev nD} (h : pOf c = pOf e) (n : Nat) (f : Nat → Fin 4) (ch : Fin 4) (u : Fin 2) :
    bigSepL ((List.range n).map fun s => .peer (f s) ch u) (memP X c) = bigSepL ((List.range n).map fun s => .peer (f s) ch u) (memP X e) :=
  bigSepL_congr' _ fun i hi => by
    obtain ⟨s, -, rfl⟩ := List.mem_map.mp hi
    exact peer_at X h _ _ _

theorem rs_pOf : ∀ t u c, pOf c = pOf (tgt (.rs t u) c) := by decide +kernel
theorem rs_zOf : ∀ t u c, zOf (tgt (.rs t u) c) = zOf c + 1 := by decide +kernel
theorem ag_pOf : ∀ t u c, pOf c = pOf (tgt (.ag t u) c) := by decide +kernel
theorem ag_zOf : ∀ t u c, zOf (tgt (.ag t u) c) = zOf c + 1 := by decide +kernel
theorem ag_tgt : ∀ t u c, tgt (.ag t u) c = mk (pOf c) (zOf c + 1) := by decide +kernel
/-- The lists of free halves agree at the two ends. -/
theorem rs_arrives : ∀ (z : Fin 4) (t : Fin 3) (u : Fin 2), arrives (z + 1) (.rs t u)
    = .slot t u :: .peer z (z - c3 t) u :: (List.range t.val).map fun s => .peer (z - 1 - Fin.ofNat 4 s) (z - c3 t) u := by decide +kernel
theorem ag_arrives : ∀ (z : Fin 4) (t : Fin 3) (u : Fin 2), arrives (z + 1) (.ag t u)
    = .sh (.half (z + 1 - c3 t) u) true :: .sh (.half (z + 1 - c3 t) u) false
      :: (List.range (2 - t.val)).map fun s => .peer (z + 2 + Fin.ofNat 4 s) (z + 1 - c3 t) u := by decide +kernel

/-- Rows at the full share are rows at its two halves. -/
theorem outP_shares (e : Dev nD) (S : Finset S4096x1024.Idx) (f : OutC F) :
    (outP e S fullShare f : sProp 𝕄) ⊣⊢ iprop(outP e S (hf true) f ∗ outP e S (hf false) f) :=
  pointsTo_share (PosShare.mem_left_op_right fullShare)

theorem outP_congr (e : Dev nD) {S : Finset S4096x1024.Idx} (q : PosShare TreeShare) {f g : OutC F} (h : ∀ i ∈ S, f i = g i) :
    (outP e S q f : sProp 𝕄) = outP e S q g := pointsTo_congr h
theorem tmpP_congr (e : Dev nD) {S : Finset S3x2x64x1024.Idx} {f g : TmpC F} (h : ∀ i ∈ S, f i = g i) :
    (tmpP e S f : sProp 𝕄) = tmpP e S g := pointsTo_congr h

theorem rs_src (t : Fin 3) (u : Fin 2) (q : PosShare TreeShare) (f : OutC F) :
    ((rsM c t u).view.loc (c : Thread nD τ) ↦[(rsM c t u).view.set]{q} f : sProp 𝕄) = outP c ((Piece.half (zOf c - c3 t) u).at c) q f :=
  congrArg (fun S => outP c S q f) (rsM_set c t u)
theorem rs_dst (e : Dev nD) (t : Fin 3) (u : Fin 2) (f : TmpC F) :
    ((slotM t u).view.loc (e : Thread nD τ) ↦[(slotM t u).view.set]{fullShare} f : sProp 𝕄) = tmpP e (slotS t u) f :=
  congrArg (fun S => tmpP e S f) (slotM_set t u)
theorem ag_pts (e : Dev nD) (t : Fin 3) (u : Fin 2) (q : PosShare TreeShare) (f : OutC F) :
    ((agM c t u).view.loc (e : Thread nD τ) ↦[(agM c t u).view.set]{q} f : sProp 𝕄) = outP e ((Piece.half (zOf c + 1 - c3 t) u).at c) q f :=
  congrArg (fun S => outP e S q f) (agM_set c t u)
theorem sub_pts (e : Dev nD) (k : Fin 4) (t : Fin 5) (q : PosShare TreeShare) (f : OutC F) :
    ((subM c k t).view.loc (e : Thread nD τ) ↦[(subM c k t).view.set]{q} f : sProp 𝕄) = outP e ((srcPc (zOf c) (.sub k t)).at c) q f :=
  congrArg (fun S => outP e S q f) (subM_set c k t)
theorem zz_pts (e : Dev nD) (k : Fin 4) (t : Fin 2) (q : PosShare TreeShare) (f : OutC F) :
    ((zzM c k t).view.loc (e : Thread nD τ) ↦[(zzM c k t).view.set]{q} f : sProp 𝕄) = outP e ((srcPc (zOf c) (.zz k t)).at c) q f :=
  congrArg (fun S => outP e S q f) (zzM_set c k t)

/-- What the entries of memory stand for, one by one. -/
theorem memP_own (ch : Fin 4) (u : Fin 2) (n : Nat) : memP X c (.own ch u n) = outP c ((Piece.half ch u).at c) fullShare (acc X c n) := rfl
theorem memP_sh (w : Piece) (b : Bool) : memP X c (.sh w b) = outP c (w.at c) (hf b) (total X) := rfl
theorem memP_slot (t : Fin 3) (u : Fin 2) : memP X c (.slot t u) = tmpP c (slotS t u) (landed X c) := rfl

theorem peer_own (c : Dev nD) (ch : Fin 4) (u : Fin 2) (f : OutC F) (e : Dev nD) (h : pOf e = pOf c) :
    (outP c ((Piece.half ch u).at c) fullShare f : sProp 𝕄) ⊢ memP X e (.peer (zOf c) ch u) := by
  show _ ⊢ iprop(∃ f, outP (mk (pOf e) (zOf c)) ((Piece.half ch u).at (mk (pOf e) (zOf c))) fullShare f)
  rw [h, mk_of]; iintro H; iexists f; iexact H

/-- Starting a transfer of the reduce-scatter. -/
theorem send_rs (t : Fin 3) (u : Fin 2) (l : List Xfer) (k : PUnit → BP F) (Q : PUnit → sProp 𝕄) :
    iprop(sendPre X K c (.rs t u) l ∗ bigSepL (needs (zOf c) (.rs t u)) (memP X c))
      ⊢ iprop((sendPost X c (.rs t u) l -∗ wpB c (k ⟨⟩) Q) -∗ wpB c (sendTo c (tgt (.rs t u) c) (.rs t u) >>= k) Q) := by
  unfold sendPre sendPost oweP atomP needs
  rw [bigSepL_cons', bigSepL_cons', peers_at X (rs_pOf t u c), memP_own]
  iintro ⟨⟨#HK, ⟨%W, HO⟩, HtR, #HrR, HtS, #HrS⟩, Ho, Hd, Hp⟩ Hk
  ihave #HI1 := (known_inv X K (mem_snd c (.rs t u))) $$ HK
  ihave #HI2 := (known_inv X K (mem_rcv (tgt (.rs t u) c) (.rs t u))) $$ HK
  ihave Hd := (show memP X c (.dst (.rs t u)) ⊢ iprop(∃ f, tmpP (tgt (.rs t u) c) (slotS t u) f) from .rfl) $$ Hd
  icases Hd with ⟨%g, Hd⟩
  iapply (Rounds.wp_send_landing_pointsTo_with (defs := defs₀ (F := F)) 𝒱₀ ER (Rd X) (c : Thread nD τ) none (c' := (tgt (.rs t u) c : Thread nD τ))
      (src := rsM c t u) (dst := slotM t u) (sS := .dma (sndSem (.rs t u))) (sem := .dma (rcvSem (.rs t u))) (q := fullShare)
      (fs := acc X c t.val) (fd := g)
      (F := bigSepL ((List.range t.val).map fun s => .peer (zOf c - 1 - Fin.ofNat 4 s) (zOf c - c3 t) u) (memP X (tgt (.rs t u) c)))
      (κ₁ := K (sndCell c (.rs t u))) (κ₂ := K (rcvCell (tgt (.rs t u) c) (.rs t u)))
      (r₁ := 0) (r₂ := 0) (d₁ := 0) (d₂ := 0) (in_snd X c _) (in_rcv X _ _) () () (amt (.rs t u)) rfl (amount_snd X c _ 0) (amount_rcv X _ _ 0)
      (dues c l) rfl (W := W)
      (by rw [payload_snd]; exact .rfl)
      (by rw [payload_rcv, rs_zOf, rs_arrives, bigSepL_cons', bigSepL_cons']
          iintro ⟨⟨Hs, Hp⟩, Ho⟩
          isplitl [Hs]
          · rw [memP_slot]
            iapply ((Entails.of_eq (rs_dst _ t u _)).trans (Entails.of_eq (tmpP_congr _ fun i hi => slot_landed X c t u g i hi))) $$ Hs
          isplitl [Ho]
          · iapply ((Entails.of_eq (rs_src c t u _ _)).trans (peer_own X c _ u _ _ (rs_pOf t u c).symm)) $$ Ho
          iexact Hp)) $$ [HO HtR HtS Ho Hd Hp]
  · isplitr; · iexact HI1
    isplitr; · iexact HI2
    isplitl [Ho]; · iapply (Entails.of_eq (rs_src c t u fullShare (acc X c t.val)).symm) $$ Ho
    isplitl [Hd Hp]
    · isplitl [Hd]; · iapply (Entails.of_eq (rs_dst _ t u g).symm) $$ Hd
      iexact Hp
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- A copied part of the result holds the total where it lands. -/
theorem total_lands {sp : Space} {sh : Shape} {e : EltTy} (d : Dev nD) (S : Finset S4096x1024.Idx) (q : PosShare TreeShare)
    (f g : OutC F) (h : ∀ i ∈ S, f i = g i) : (outP d S q f : sProp 𝕄) ⊢ outP d S q g := Entails.of_eq (outP_congr d q h)

theorem ag_row (t : Fin 3) (u : Fin 2) (d : Dev nD) : (Piece.half (zOf d + 1 - c3 t) u).at (tgt (.ag t u) d) = (Piece.half (zOf d + 1 - c3 t) u).at d := by
  have h := src_dst_at (.ag t u) d
  rw [ag_zOf] at h
  exact h.symm

/-- Starting a transfer of the all-gather along the ring. -/
theorem send_ag (t : Fin 3) (u : Fin 2) (l : List Xfer) (k : PUnit → BP F) (Q : PUnit → sProp 𝕄) :
    iprop(sendPre X K c (.ag t u) l ∗ bigSepL (needs (zOf c) (.ag t u)) (memP X c))
      ⊢ iprop((sendPost X c (.ag t u) l -∗ wpB c (k ⟨⟩) Q) -∗ wpB c (sendTo c (tgt (.ag t u) c) (.ag t u) >>= k) Q) := by
  unfold sendPre sendPost oweP atomP needs
  rw [bigSepL_cons', bigSepL_cons', peers_at X (ag_pOf t u c), memP_sh]
  iintro ⟨⟨#HK, ⟨%W, HO⟩, HtR, #HrR, HtS, #HrS⟩, Ho, Hd, Hp⟩ Hk
  ihave #HI1 := (known_inv X K (mem_snd c (.ag t u))) $$ HK
  ihave #HI2 := (known_inv X K (mem_rcv (tgt (.ag t u) c) (.ag t u))) $$ HK
  ihave Hd := (show memP X c (.peer (zOf c + 1) (zOf c + 1 - c3 t) u) ⊢ iprop(∃ f, outP (tgt (.ag t u) c) ((Piece.half (zOf c + 1 - c3 t) u).at c) fullShare f) from by
    rw [← ag_row t u c, ag_tgt]; exact .rfl) $$ Hd
  icases Hd with ⟨%g, Hd⟩
  iapply (Rounds.wp_send_pointsTo_with (defs := defs₀ (F := F)) 𝒱₀ ER (Rd X) (c : Thread nD τ) none (c' := (tgt (.ag t u) c : Thread nD τ))
      (src := agM c t u) (dst := agM c t u) (sS := .dma (sndSem (.ag t u))) (sem := .dma (rcvSem (.ag t u))) (q := hf false)
      (fs := total X) (fd := g)
      (F := bigSepL ((List.range (2 - t.val)).map fun s => .peer (zOf c + 2 + Fin.ofNat 4 s) (zOf c + 1 - c3 t) u) (memP X (tgt (.ag t u) c)))
      (κ₁ := K (sndCell c (.ag t u))) (κ₂ := K (rcvCell (tgt (.ag t u) c) (.ag t u)))
      (r₁ := 0) (r₂ := 0) (d₁ := 0) (d₂ := 0) (in_snd X c _) (in_rcv X _ _) () () (amt (.ag t u)) rfl (amount_snd X c _ 0) (amount_rcv X _ _ 0)
      (dues c l) rfl (W := W)
      (by rw [payload_snd]; exact Entails.of_eq (ag_pts c c t u (hf false) (total X)))
      (by rw [payload_rcv, ag_zOf, ag_arrives, bigSepL_cons', bigSepL_cons']
          iintro ⟨Hs, Hp⟩
          ihave Hs := ((Entails.of_eq ((ag_pts c _ t u _ _).trans (outP_congr _ _ fun i hi =>
            copy_same (Elt F) (agM c t u).view g (total X) i (by rw [agM_set]; exact hi)))).trans (outP_shares _ _ _).1) $$ Hs
          icases Hs with ⟨H1, H2⟩
          rw [memP_sh, memP_sh, ag_row]
          isplitl [H1]; · iexact H1
          isplitl [H2]; · iexact H2
          iexact Hp)) $$ [HO HtR HtS Ho Hd Hp]
  · isplitr; · iexact HI1
    isplitr; · iexact HI2
    isplitl [Ho]; · iapply (Entails.of_eq (ag_pts c c t u (hf false) (total X)).symm) $$ Ho
    isplitl [Hd Hp]
    · isplitl [Hd]; · iapply (Entails.of_eq (ag_pts c _ t u fullShare g).symm) $$ Hd
      iexact Hp
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- The two halves of an own chunk are the chunk. -/
theorem glue (z : Fin 4) (k : Fin 4) (b : Bool) :
    iprop(memP X c (.sh (.half (zOf c + 1 - k) 0) b) ∗ memP X c (.sh (.half (zOf c + 1 - k) 1) b)) ⊢ memP X c (.sh (srcPc (zOf c) (.sub k 0)) b) := by
  rw [memP_sh, memP_sh, memP_sh]
  have e : (srcPc (zOf c) (.sub k 0)).at c = (Piece.half (zOf c + 1 - k) 0).at c ∪ (Piece.half (zOf c + 1 - k) 1).at c := by
    have hb : blk (pOf c) (zOf c) (zOf c + 1 - k) (c5 0) = pOf c := by
      revert c k; decide +kernel
    ext i
    simp only [Finset.mem_union, Piece.at, mem_rows, srcPc, Piece.row, Piece.cnt]
    rw [hb]
    simp only [Fin.val_zero, Fin.val_one]
    omega
  have hd : Disjoint ((Piece.half (zOf c + 1 - k) 0).at c) ((Piece.half (zOf c + 1 - k) 1).at c) := by
    rw [Finset.disjoint_left]; intro i h1 h2
    simp only [Piece.at, mem_rows, Piece.row, Piece.cnt, Fin.val_zero, Fin.val_one] at h1 h2
    omega
  rw [e]
  exact (pointsTo_union hd).2

/-- The memory with which a chunk of a walk step is sent, and its room. -/
theorem needs_sub (k : Fin 4) (t : Fin 5) : bigSepL (needs (zOf c) (.sub k t)) (memP X c)
    ⊢ iprop(memP X c (.sh (srcPc (zOf c) (.sub k t)) true) ∗ memP X c (.dst (.sub k t))) := by
  match t with
  | 0 =>
    show bigSepL [.sh (.half (zOf c + 1 - k) 0) true, .sh (.half (zOf c + 1 - k) 1) true, .dst (.sub k 0)] (memP X c) ⊢ _
    rw [bigSepL_cons', bigSepL_cons', bigSepL_cons', bigSepL_nil]
    iintro ⟨H1, H2, H3, -⟩
    isplitl [H1 H2]
    · iapply (glue X c (zOf c) k true); isplitl [H1] <;> iassumption
    iexact H3
  | 1 | 2 | 3 | 4 =>
    show bigSepL [_, _] (memP X c) ⊢ _
    rw [bigSepL_cons', bigSepL_cons', bigSepL_nil]
    iintro ⟨H1, H3, -⟩
    isplitl [H1] <;> iassumption

/-- Starting a transfer of a walk step. -/
theorem send_sub (k' : Fin 4) (t : Fin 5) (l : List Xfer) (k : PUnit → BP F) (Q : PUnit → sProp 𝕄) :
    iprop(sendPre X K c (.sub k' t) l ∗ bigSepL (needs (zOf c) (.sub k' t)) (memP X c))
      ⊢ iprop((sendPost X c (.sub k' t) l -∗ wpB c (k ⟨⟩) Q) -∗ wpB c (sendTo c (tgt (.sub k' t) c) (.sub k' t) >>= k) Q) := by
  refine (sep_mono_right (needs_sub X c k' t)).trans ?_
  unfold sendPre sendPost oweP atomP
  rw [memP_sh]
  iintro ⟨⟨#HK, ⟨%W, HO⟩, HtR, #HrR, HtS, #HrS⟩, Ho, Hd⟩ Hk
  ihave #HI1 := (known_inv X K (mem_snd c (.sub k' t))) $$ HK
  ihave #HI2 := (known_inv X K (mem_rcv (tgt (.sub k' t) c) (.sub k' t))) $$ HK
  ihave Hd := (show memP X c (.dst (.sub k' t)) ⊢ iprop(∃ f, outP (tgt (.sub k' t) c) ((srcPc (zOf c) (.sub k' t)).at c) fullShare f) from by
    rw [src_dst_at]; exact .rfl) $$ Hd
  icases Hd with ⟨%g, Hd⟩
  iapply (Rounds.wp_send_pointsTo (defs := defs₀ (F := F)) 𝒱₀ ER (Rd X) (c : Thread nD τ) none (c' := (tgt (.sub k' t) c : Thread nD τ))
      (src := subM c k' t) (dst := subM c k' t) (sS := .dma (sndSem (.sub k' t))) (sem := .dma (rcvSem (.sub k' t))) (q := hf true)
      (fs := total X) (fd := g)
      (κ₁ := K (sndCell c (.sub k' t))) (κ₂ := K (rcvCell (tgt (.sub k' t) c) (.sub k' t)))
      (r₁ := 0) (r₂ := 0) (d₁ := 0) (d₂ := 0) (in_snd X c _) (in_rcv X _ _) () () (amt (.sub k' t)) rfl (amount_snd X c _ 0) (amount_rcv X _ _ 0)
      (dues c l) rfl (W := W)
      (by rw [payload_snd]; exact Entails.of_eq (sub_pts c c k' t (hf true) (total X)))
      (by rw [payload_rcv]
          refine (Entails.of_eq ((sub_pts c _ k' t _ _).trans (outP_congr _ _ fun i hi =>
            copy_same (Elt F) (subM c k' t).view g (total X) i (by rw [subM_set]; exact hi)))).trans ((outP_shares _ _ _).1.trans ?_)
          rw [src_dst_at]
          exact .rfl)) $$ [HO HtR HtS Ho Hd]
  · isplitr; · iexact HI1
    isplitr; · iexact HI2
    isplitl [Ho]; · iapply (Entails.of_eq (sub_pts c c k' t (hf true) (total X)).symm) $$ Ho
    isplitl [Hd]; · iapply (Entails.of_eq (sub_pts c _ k' t fullShare g).symm) $$ Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- Starting a transfer to the ring partner. -/
theorem send_zz (k' : Fin 4) (t : Fin 2) (l : List Xfer) (k : PUnit → BP F) (Q : PUnit → sProp 𝕄) :
    iprop(sendPre X K c (.zz k' t) l ∗ bigSepL (needs (zOf c) (.zz k' t)) (memP X c))
      ⊢ iprop((sendPost X c (.zz k' t) l -∗ wpB c (k ⟨⟩) Q) -∗ wpB c (sendTo c (tgt (.zz k' t) c) (.zz k' t) >>= k) Q) := by
  unfold sendPre sendPost oweP atomP needs
  rw [bigSepL_cons', bigSepL_cons', bigSepL_nil, memP_sh]
  iintro ⟨⟨#HK, ⟨%W, HO⟩, HtR, #HrR, HtS, #HrS⟩, Ho, Hd, -⟩ Hk
  ihave #HI1 := (known_inv X K (mem_snd c (.zz k' t))) $$ HK
  ihave #HI2 := (known_inv X K (mem_rcv (tgt (.zz k' t) c) (.zz k' t))) $$ HK
  ihave Hd := (show memP X c (.dst (.zz k' t)) ⊢ iprop(∃ f, outP (tgt (.zz k' t) c) ((srcPc (zOf c) (.zz k' t)).at c) fullShare f) from by
    rw [src_dst_at]; exact .rfl) $$ Hd
  icases Hd with ⟨%g, Hd⟩
  iapply (Rounds.wp_send_pointsTo (defs := defs₀ (F := F)) 𝒱₀ ER (Rd X) (c : Thread nD τ) none (c' := (tgt (.zz k' t) c : Thread nD τ))
      (src := zzM c k' t) (dst := zzM c k' t) (sS := .dma (sndSem (.zz k' t))) (sem := .dma (rcvSem (.zz k' t))) (q := hf false)
      (fs := total X) (fd := g)
      (κ₁ := K (sndCell c (.zz k' t))) (κ₂ := K (rcvCell (tgt (.zz k' t) c) (.zz k' t)))
      (r₁ := 0) (r₂ := 0) (d₁ := 0) (d₂ := 0) (in_snd X c _) (in_rcv X _ _) () () (amt (.zz k' t)) rfl (amount_snd X c _ 0) (amount_rcv X _ _ 0)
      (dues c l) rfl (W := W)
      (by rw [payload_snd]; exact Entails.of_eq (zz_pts c c k' t (hf false) (total X)))
      (by rw [payload_rcv]
          refine (Entails.of_eq ((zz_pts c _ k' t _ _).trans (outP_congr _ _ fun i hi =>
            copy_same (Elt F) (zzM c k' t).view g (total X) i (by rw [zzM_set]; exact hi)))).trans ((outP_shares _ _ _).1.trans ?_)
          rw [src_dst_at]
          exact .rfl)) $$ [HO HtR HtS Ho Hd]
  · isplitr; · iexact HI1
    isplitr; · iexact HI2
    isplitl [Ho]; · iapply (Entails.of_eq (zz_pts c c k' t (hf false) (total X)).symm) $$ Ho
    isplitl [Hd]; · iapply (Entails.of_eq (zz_pts c _ k' t fullShare g).symm) $$ Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

/-- Starting any transfer. -/
theorem send_ok (x : Xfer) (l : List Xfer) (k : PUnit → BP F) (Q : PUnit → sProp 𝕄) :
    iprop(sendPre X K c x l ∗ bigSepL (needs (zOf c) x) (memP X c))
      ⊢ iprop((sendPost X c x l -∗ wpB c (k ⟨⟩) Q) -∗ wpB c (sendP c x >>= k) Q) := by
  rw [sendP_eq]
  cases x with
  | rs t u => exact send_rs X K c t u l k Q
  | ag t u => exact send_ag X K c t u l k Q
  | sub k' t => exact send_sub X K c k' t l k Q
  | zz k' t => exact send_zz X K c k' t l k Q

/-! ### Waiting -/

theorem amt_slot (t : Fin 3) (u : Fin 2) : (slotM t u).view.dmaCredit = amt (.rs t u) := rfl
theorem amt_rs (t : Fin 3) (u : Fin 2) : (rsM c t u).view.dmaCredit = amt (.rs t u) := rfl
theorem amt_ag (t : Fin 3) (u : Fin 2) : (agM c t u).view.dmaCredit = amt (.ag t u) := rfl
theorem amt_sub (k : Fin 4) (t : Fin 5) : (subM c k t).view.dmaCredit = amt (.sub k t) := rfl
theorem amt_zz (k : Fin 4) (j : Fin 2) : (zzM c k j).view.dmaCredit = amt (.zz k j) := rfl
theorem amt_zw (k : Fin 4) (j : Fin 2) : (zwM c k j).view.dmaCredit = amt (.zz k j) := rfl

theorem known_wait (x : Xfer) (l : List Xfer) (hl : ∀ y ∈ l, place x < place y) :
    Known X K ⊢ MayWait (c : Thread nD τ) (.dma (rcvSem x)) () (dues c l) :=
  by
  unfold Known
  iintro ⟨-, H⟩
  iapply (mayWait_rcv c x l hl)
  unfold Levs; iexact H

/-- Waiting for an arrival. -/
theorem recv_ok (x : Xfer) (l : List Xfer) (hl : ∀ y ∈ l, place x < place y) (k : PUnit → BP F) (Q : PUnit → sProp 𝕄) :
    iprop(Known X K ∗ oweP c l ∗ atomP X c (.rcv x))
      ⊢ iprop(((oweP c l ∗ atomP X c (.fin x) ∗ bigSepL (arrives (zOf c) x) (memP X c)) -∗ wpB c (k ⟨⟩) Q) -∗ wpB c (recvP c x >>= k) Q) := by
  unfold oweP atomP
  iintro ⟨#HK, ⟨%W, HO⟩, Hat, Hc⟩ Hk
  ihave #HI := (known_inv X K (mem_rcv c x)) $$ HK
  have h : iprop(cellInv ER (Rd X) (K (rcvCell c x)) (rcvCell c x) ∗ cred (tallyAt (rcvCell c x) () (amt x)) ∗ owes (c : Thread nD τ) (dues c l) W
      ∗ MayWait (c : Thread nD τ) (.dma (rcvSem x)) () (dues c l) ∗ atPos ER (rcvCell c x) 0 ∅ 0)
      ⊢ iprop(((owes (c : Thread nD τ) (dues c l) (insert (.dma (rcvSem x), ()) W) ∗ atPos ER (rcvCell c x) (0 + 1) ∅ 0 ∗ reached ER (rcvCell c x) (0 + 1)
          ∗ bigSep ((Rd X).duties (rcvCell c x) 0 \ ∅) (fun d => (Rd X).payload (rcvCell c x) 0 d)) -∗ wpB c (k ⟨⟩) Q) -∗ wpB c (recvP c x >>= k) Q) := by
    cases x with
    | rs t u =>
      rw [← amt_slot t u]
      exact Rounds.wp_wait_rest_token (defs := defs₀ (F := F)) 𝒱₀ ER (Rd X) (c : Thread nD τ) none (κ := K (rcvCell c _))
        (wpE_waitDma2_eq 𝒱₀ (c : Thread nD τ) none Set.univ) (Set.mem_univ _) () (O := dues c l) (W := W) (R := 0) (m := 0) (T := ∅)
        ((Nat.zero_add _).trans ((amt_slot t u).trans (expect_rcv X c _).symm))
    | ag t u =>
      rw [← amt_ag c t u]
      exact Rounds.wp_wait_rest_token (defs := defs₀ (F := F)) 𝒱₀ ER (Rd X) (c : Thread nD τ) none (κ := K (rcvCell c _))
        (wpE_waitDma2_eq 𝒱₀ (c : Thread nD τ) none Set.univ) (Set.mem_univ _) () (O := dues c l) (W := W) (R := 0) (m := 0) (T := ∅)
        ((Nat.zero_add _).trans ((amt_ag c t u).trans (expect_rcv X c _).symm))
    | sub k t =>
      rw [← amt_sub c k t]
      exact Rounds.wp_wait_rest_token (defs := defs₀ (F := F)) 𝒱₀ ER (Rd X) (c : Thread nD τ) none (κ := K (rcvCell c _))
        (wpE_waitDma2_eq 𝒱₀ (c : Thread nD τ) none Set.univ) (Set.mem_univ _) () (O := dues c l) (W := W) (R := 0) (m := 0) (T := ∅)
        ((Nat.zero_add _).trans ((amt_sub c k t).trans (expect_rcv X c _).symm))
    | zz k j =>
      rw [← amt_zw c k j]
      exact Rounds.wp_wait_rest_token (defs := defs₀ (F := F)) 𝒱₀ ER (Rd X) (c : Thread nD τ) none (κ := K (rcvCell c _))
        (wpE_waitDma2_eq 𝒱₀ (c : Thread nD τ) none Set.univ) (Set.mem_univ _) () (O := dues c l) (W := W) (R := 0) (m := 0) (T := ∅)
        ((Nat.zero_add _).trans ((amt_zw c k j).trans (expect_rcv X c _).symm))
  iapply h $$ [HO Hat Hc]
  · isplitr; · iexact HI
    isplitl [Hc]; · iexact Hc
    isplitl [HO]; · iexact HO
    isplitr; · iapply (known_wait X K c x l hl) $$ HK
    iexact Hat
  iintro ⟨HO, Hat, -, Hp⟩
  ihave Hp := (Entails.of_eq (rest_rcv X c x)) $$ Hp
  iapply Hk
  isplitl [HO]; · iexists _; iexact HO
  isplitl [Hat]; · iexact Hat
  iexact Hp

/-- Waiting for a departure, owing nothing. -/
theorem done_ok (x : Xfer) (k : PUnit → BP F) (Q : PUnit → sProp 𝕄) :
    iprop(Known X K ∗ oweP c [] ∗ atomP X c (.crd x) ∗ atomP X c (.pos x))
      ⊢ iprop(((oweP c [] ∗ atomP X c (.finS x) ∗ bigSepL (departs (zOf c) x) (memP X c)) -∗ wpB c (k ⟨⟩) Q) -∗ wpB c (doneP c x >>= k) Q) := by
  unfold oweP atomP
  iintro ⟨#HK, ⟨%W, HO⟩, Hc, Hat⟩ Hk
  ihave #HI := (known_inv X K (mem_snd c x)) $$ HK
  have h : iprop(cellInv ER (Rd X) (K (sndCell c x)) (sndCell c x) ∗ cred (tallyAt (sndCell c x) () (amt x)) ∗ owes (c : Thread nD τ) 0 W
      ∗ MayWait (c : Thread nD τ) (.dma (sndSem x)) () 0 ∗ atPos ER (sndCell c x) 0 ∅ 0)
      ⊢ iprop(((owes (c : Thread nD τ) 0 (insert (.dma (sndSem x), ()) W) ∗ atPos ER (sndCell c x) (0 + 1) ∅ 0 ∗ reached ER (sndCell c x) (0 + 1)
          ∗ bigSep ((Rd X).duties (sndCell c x) 0 \ ∅) (fun d => (Rd X).payload (sndCell c x) 0 d)) -∗ wpB c (k ⟨⟩) Q) -∗ wpB c (doneP c x >>= k) Q) := by
    cases x with
    | rs t u =>
      rw [← amt_rs c t u]
      exact Rounds.wp_wait_rest_token (defs := defs₀ (F := F)) 𝒱₀ ER (Rd X) (c : Thread nD τ) none (κ := K (sndCell c _))
        (wpE_waitDma2_eq 𝒱₀ (c : Thread nD τ) none Set.univ) (Set.mem_univ _) () (O := 0) (W := W) (R := 0) (m := 0) (T := ∅)
        ((Nat.zero_add _).trans ((amt_rs c t u).trans (expect_snd X c _).symm))
    | ag t u =>
      rw [← amt_ag c t u]
      exact Rounds.wp_wait_rest_token (defs := defs₀ (F := F)) 𝒱₀ ER (Rd X) (c : Thread nD τ) none (κ := K (sndCell c _))
        (wpE_waitDma2_eq 𝒱₀ (c : Thread nD τ) none Set.univ) (Set.mem_univ _) () (O := 0) (W := W) (R := 0) (m := 0) (T := ∅)
        ((Nat.zero_add _).trans ((amt_ag c t u).trans (expect_snd X c _).symm))
    | sub k t =>
      rw [← amt_sub c k t]
      exact Rounds.wp_wait_rest_token (defs := defs₀ (F := F)) 𝒱₀ ER (Rd X) (c : Thread nD τ) none (κ := K (sndCell c _))
        (wpE_waitDma2_eq 𝒱₀ (c : Thread nD τ) none Set.univ) (Set.mem_univ _) () (O := 0) (W := W) (R := 0) (m := 0) (T := ∅)
        ((Nat.zero_add _).trans ((amt_sub c k t).trans (expect_snd X c _).symm))
    | zz k j =>
      rw [← amt_zz c k j]
      exact Rounds.wp_wait_rest_token (defs := defs₀ (F := F)) 𝒱₀ ER (Rd X) (c : Thread nD τ) none (κ := K (sndCell c _))
        (wpE_waitDma2_eq 𝒱₀ (c : Thread nD τ) none Set.univ) (Set.mem_univ _) () (O := 0) (W := W) (R := 0) (m := 0) (T := ∅)
        ((Nat.zero_add _).trans ((amt_zz c k j).trans (expect_snd X c _).symm))
  iapply h $$ [HO Hat Hc]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_snd X c x)) $$ Hp
  iapply Hk
  isplitl [HO]; · iexists _; iexact HO
  isplitl [Hat]; · iexact Hat
  iexact Hp

/-! ### Adding -/

theorem addR_in (t : Fin 3) (u : Fin 2) : ((outM.access (addR c t u)).set : Finset S4096x1024.Idx) ⊆ (Piece.half (zOf c - 1 - c3 t) u).at c :=
  ((View.set_slice_whole _ _).trans (addR_set c t u)).le
theorem slotR_in (t : Fin 3) (u : Fin 2) : ((tmpM.access (slotR t u)).set : Finset S3x2x64x1024.Idx) ⊆ slotS t u :=
  ((View.set_slice_whole _ _).trans (slotR_set t u)).le

/-- The half after the addition is at the next running sum. -/
theorem add_back (t : Fin 3) (u : Fin 2) :
    ((outM.access (addR c t u)).loc (c : Thread nD τ) ↦[((Piece.half (zOf c - 1 - c3 t) u).at c : Finset S4096x1024.Idx)]{fullShare}
      ((outM.access (addR c t u)).write (Elt F) (acc X c 0)
        (k0_pay2 ((outM.access (addR c t u)).read (Elt F) (acc X c 0)) ((tmpM.access (slotR t u)).read (Elt F) (landed X c))) Finset.univ) : sProp 𝕄)
      ⊢ outP c ((Piece.half (zOf c - 1 - c3 t) u).at c) fullShare (acc X c (t.val + 1)) :=
  Entails.of_eq (outP_congr c fullShare fun i hi => add_value X c t u i hi)

/-- Adding an arrived slot: the half of the chunk is at the next running sum. -/
theorem add_acc (t : Fin 3) (u : Fin 2) (k : PUnit → BP F) (Q : PUnit → sProp 𝕄) :
    iprop(memP X c (.own (zOf c - 1 - c3 t) u 0) ∗ memP X c (.slot t u))
      ⊢ iprop(((memP X c (.own (zOf c - 1 - c3 t) u (t.val + 1)) ∗ memP X c (.slot t u)) -∗ wpB c (k ⟨⟩) Q) -∗ wpB c (addP c t u >>= k) Q) := by
  rw [memP_own, memP_own, memP_slot]
  iintro ⟨Ho, Hs⟩ Hk
  iapply (wp_load_rect (defs := defs₀ (F := F)) 𝒱₀ (c : Thread nD τ) none Set.univ (m := outM) (r := addR c t u) (f := acc X c 0) (addR_in c t u)) $$ Ho
  iintro Ho
  iapply (wp_load_rect (defs := defs₀ (F := F)) 𝒱₀ (c : Thread nD τ) none Set.univ (m := tmpM) (r := slotR t u) (f := landed X c) (slotR_in t u)) $$ Hs
  iintro Hs
  iapply (wp_load_rect (defs := defs₀ (F := F)) 𝒱₀ (c : Thread nD τ) none Set.univ (m := outM) (r := addR c t u) (f := acc X c 0) (addR_in c t u)) $$ Ho
  iintro Ho
  iapply (wp_store (defs := defs₀ (F := F)) 𝒱₀ (c : Thread nD τ) none Set.univ (m := outM) (r := addR c t u) (f := acc X c 0)
    (by rw [View.setOn_univ]; exact addR_in c t u)) $$ Ho
  iintro Ho
  iapply Hk
  isplitl [Ho]
  · iapply (add_back X c t u) $$ Ho
  iexact Hs

theorem atomP_mem (a : Mem) : atomP X c (.mem a) = memP X c a := rfl
theorem last_half : ∀ z : Fin 4, z - 1 - c3 2 = z + 1 := by decide

/-! ### Any operation -/

theorem step_ok (o : Op) (l l' : List Xfer) (pre post : List Atom) (h : step (zOf c) o l = some (pre, post, l'))
    (k : PUnit → BP F) (Q : PUnit → sProp 𝕄) :
    iprop(Known X K ∗ oweP c l ∗ bigSepL pre (atomP X c))
      ⊢ iprop(((oweP c l' ∗ bigSepL post (atomP X c)) -∗ wpB c (k ⟨⟩) Q) -∗ wpB c (opP c o >>= k) Q) := by
  cases o with
  | send x =>
    cases l with
    | nil => simp [step] at h
    | cons y l₁ =>
      simp only [step] at h
      split at h
      · rename_i e
        subst e
        simp only [Option.some.injEq, Prod.mk.injEq] at h
        obtain ⟨rfl, rfl, rfl⟩ := h
        rw [bigSepL_cons', bigSepL_mem, bigSepL_cons', bigSepL_nil]
        iintro ⟨#HK, HO, Ht, Hm⟩ Hk
        iapply (send_ok X K c y l₁ k Q) $$ [HO Ht Hm]
        · isplitl [HO Ht]
          · unfold sendPre
            isplitr; · iexact HK
            isplitl [HO] <;> iassumption
          iexact Hm
        unfold sendPost
        iintro ⟨Hc, HO⟩
        iapply Hk
        isplitl [HO]; · iexact HO
        isplitl [Hc]; · iexact Hc
        iempintro
      · simp at h
  | recv x =>
    simp only [step] at h
    split at h
    · rename_i hl
      simp only [Option.some.injEq, Prod.mk.injEq] at h
      obtain ⟨rfl, rfl, rfl⟩ := h
      rw [bigSepL_cons', bigSepL_nil, bigSepL_cons', bigSepL_mem]
      iintro ⟨#HK, HO, Ha, -⟩ Hk
      iapply (recv_ok X K c x l hl k Q) $$ [HO Ha]
      · isplitr; · iexact HK
        isplitl [HO] <;> iassumption
      iintro ⟨HO, Hf, Hm⟩
      iapply Hk
      isplitl [HO]; · iexact HO
      isplitl [Hf] <;> iassumption
    · simp at h
  | done x =>
    simp only [step] at h
    split at h
    · rename_i hl
      subst hl
      simp only [Option.some.injEq, Prod.mk.injEq] at h
      obtain ⟨rfl, rfl, rfl⟩ := h
      rw [bigSepL_cons', bigSepL_cons', bigSepL_nil, bigSepL_cons', bigSepL_mem]
      iintro ⟨#HK, HO, Hc, Ha, -⟩ Hk
      iapply (done_ok X K c x k Q) $$ [HO Hc Ha]
      · isplitr; · iexact HK
        isplitl [HO]; · iexact HO
        isplitl [Hc] <;> iassumption
      iintro ⟨HO, Hf, Hm⟩
      iapply Hk
      isplitl [HO]; · iexact HO
      isplitl [Hf] <;> iassumption
    · simp at h
  | add t u =>
    simp only [step, Option.some.injEq, Prod.mk.injEq] at h
    obtain ⟨rfl, rfl, rfl⟩ := h
    rw [bigSepL_cons', bigSepL_cons', bigSepL_nil, atomP_mem, atomP_mem]
    iintro ⟨#HK, HO, Ho, Hs, -⟩ Hk
    iapply (add_acc X c t u k Q) $$ [Ho Hs]
    · isplitl [Ho] <;> iassumption
    iintro ⟨Ho, Hs⟩
    iapply Hk
    isplitl [HO]; · iexact HO
    by_cases ht : t = 2
    · subst ht
      rw [if_pos rfl, List.cons_append, List.cons_append, List.nil_append, bigSepL_cons', bigSepL_cons', bigSepL_cons', bigSepL_nil, atomP_mem, atomP_mem, atomP_mem]
      ihave Ho := (show memP X c (.own (zOf c - 1 - c3 2) u ((2 : Fin 3).val + 1)) ⊢ iprop(memP X c (.sh (.half (zOf c + 1) u) true) ∗ memP X c (.sh (.half (zOf c + 1) u) false)) from by
        rw [memP_own, memP_sh, memP_sh, last_half]
        exact (Entails.of_eq (outP_congr c fullShare fun i hi => (total_half X c u i hi).symm)).trans (outP_shares c _ _).1) $$ Ho
      icases Ho with ⟨H1, H2⟩
      isplitl [H1]; · iexact H1
      isplitl [H2]; · iexact H2
      isplitl [Hs]; · iexact Hs
      iempintro
    · rw [if_neg ht, List.cons_append, List.nil_append, bigSepL_cons', bigSepL_cons', bigSepL_nil, atomP_mem, atomP_mem]
      isplitl [Ho]; · iexact Ho
      isplitl [Hs]; · iexact Hs
      iempintro

/-- All operations in turn. -/
theorem run_sound : ∀ (os : List Op) (l l' : List Xfer) (S S' : List Atom), run (zOf c) os l S = some (l', S') → ∀ (Q : PUnit → sProp 𝕄),
    iprop(Known X K ∗ oweP c l ∗ bigSepL S (atomP X c) ∗ ((oweP c l' ∗ bigSepL S' (atomP X c)) -∗ wpB c (pure ⟨⟩) Q)) ⊢ wpB c (runOps c os) Q
  | [], l, l', S, S', h, Q => by
    simp only [run, Option.some.injEq, Prod.mk.injEq] at h
    obtain ⟨rfl, rfl⟩ := h
    unfold runOps
    iintro ⟨-, HO, HS, Hk⟩
    iapply Hk
    isplitl [HO] <;> iassumption
  | o :: os, l, l', S, S', h, Q => by
    simp only [run] at h
    split at h
    · simp at h
    · rename_i pre post l₁ e
      split at h
      · simp at h
      · rename_i S₁ e₁
        unfold runOps
        iintro ⟨#HK, HO, HS, Hk⟩
        ihave HS := (bigSepL_takeOut e₁ (atomP X c)) $$ HS
        icases HS with ⟨Hpre, HS⟩
        iapply (step_ok X K c o l l₁ pre post e (fun _ => runOps c os) Q) $$ [HO Hpre]
        · isplitr; · iexact HK
          isplitl [HO] <;> iassumption
        iintro ⟨HO, Hpost⟩
        iapply (run_sound os l₁ l' (post ++ S₁) S' h Q)
        isplitr; · iexact HK
        isplitl [HO]; · iexact HO
        isplitl [Hpost HS]
        · iapply (Entails.of_eq (bigSepL_append post S₁ (atomP X c)).symm)
          isplitl [Hpost] <;> iassumption
        iexact Hk

end Cert.KernelIdeal.Ring

end
-- ==== Proof.Ideal.Split.lean ====
/- The result and the scratch cut into the parts the transfers carry, and put together again. -/
module

public import proofs.«01_k».proof.Proof.Ideal.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ### Strips of 64 rows -/

/-- The strips a part consists of. -/
def strips (p : Fin 8) (z : Fin 4) (w : Piece) : List Nat := List.range' (w.row p z / 64) (w.cnt / 64)
/-- The rows of some strips. -/
def ofStrips (l : List Nat) : Finset S4096x1024.Idx := Finset.univ.filter fun i => (i 0).val / 64 ∈ l

theorem mem_ofStrips {l : List Nat} {i : S4096x1024.Idx} : i ∈ ofStrips l ↔ (i 0).val / 64 ∈ l := by simp [ofStrips]

theorem at_strips (d : Dev nD) (w : Piece) : w.at d = ofStrips (strips (pOf d) (zOf d) w) := by
  ext i
  rw [Piece.at, mem_rows, mem_ofStrips, strips, List.mem_range'_1]
  have h : w.row (pOf d) (zOf d) % 64 = 0 ∧ (w.cnt = 64 ∨ w.cnt = 128) := by
    cases w with
    | half ch u => exact ⟨by show (512 * (pOf d).val + 128 * ch.val + 64 * u.val) % 64 = 0; omega, Or.inl rfl⟩
    | reg ch h => exact ⟨by show (512 * (blk (pOf d) (zOf d) ch h).val + 128 * ch.val) % 64 = 0; omega, Or.inr rfl⟩
  omega

theorem ofStrips_perm {l l' : List Nat} (h : l.Perm l') : ofStrips l = ofStrips l' := by
  ext i; rw [mem_ofStrips, mem_ofStrips, h.mem_iff]

theorem outP_append (d : Dev nD) (a b : List Nat) (h : (a ++ b).Nodup) (q : PosShare TreeShare) (f : OutC F) :
    (outP d (ofStrips (a ++ b)) q f : sProp 𝕄) = iprop(outP d (ofStrips a) q f ∗ outP d (ofStrips b) q f) := by
  have hu : ofStrips (a ++ b) = ofStrips a ∪ ofStrips b := by
    ext i; rw [Finset.mem_union, mem_ofStrips, mem_ofStrips, mem_ofStrips, List.mem_append]
  have hd : Disjoint (ofStrips a) (ofStrips b) := Finset.disjoint_left.mpr fun i hi hj =>
    (List.disjoint_of_nodup_append h) (mem_ofStrips.mp hi) (mem_ofStrips.mp hj)
  rw [hu]
  exact (pointsTo_union hd).1.antisymm (pointsTo_union hd).2

/-- Rows held are the parts held that make them up. -/
theorem outP_list (d : Dev nD) (q : PosShare TreeShare) (f : OutC F) : ∀ l : List Piece, (l.flatMap (strips (pOf d) (zOf d))).Nodup →
    (outP d (ofStrips (l.flatMap (strips (pOf d) (zOf d)))) q f : sProp 𝕄) = bigSepL l fun w => outP d (w.at d) q f
  | [], _ => by
    have h : ofStrips [] = ∅ := by ext i; simp [mem_ofStrips]
    rw [List.flatMap_nil, h]; exact pointsTo_empty
  | w :: l, h => by
    rw [List.flatMap_cons] at h ⊢
    rw [outP_append d _ _ h, bigSepL_cons', outP_list d q f l (List.nodup_append.mp h).2.1, at_strips]

theorem outP_parts (d : Dev nD) (q : PosShare TreeShare) (f : OutC F) (l : List Piece) (s : List Nat) (hs : s.Nodup)
    (h : (l.flatMap (strips (pOf d) (zOf d))).Perm s) :
    (outP d (ofStrips s) q f : sProp 𝕄) = bigSepL l fun w => outP d (w.at d) q f := by
  rw [← ofStrips_perm h, outP_list d q f l (h.nodup_iff.mpr hs)]

theorem ofStrips_all : ofStrips (List.range 64) = Finset.univ := by
  ext i
  have h := (i 0).isLt
  change (i 0).val < 4096 at h
  simp only [mem_ofStrips, List.mem_range, Finset.mem_univ, iff_true]; omega

/-- A device's own block. -/
def ownRows (d : Dev nD) : Finset S4096x1024.Idx := rows (512 * (pOf d).val) 512

theorem ownRows_strips (d : Dev nD) : ownRows d = ofStrips (List.range' (8 * (pOf d).val) 8) := by
  ext i
  rw [ownRows, mem_rows, mem_ofStrips, List.mem_range'_1]
  omega

/-- The halves of a device's own block, listed. -/
def halves : List Piece := (List.finRange 4).flatMap fun ch => (List.finRange 2).map fun u => .half ch u
/-- The transfers into the blocks of others, listed. -/
def walks : List Xfer :=
  ((List.finRange 4).flatMap fun k => (List.finRange 5).map fun t => .sub k t)
  ++ ((List.finRange 4).flatMap fun c => (List.finRange 2).map fun j => .zz c j)
/-- The parts of the result by chunk and step: the own block's, and the others'. -/
def regs0 : List Piece := (List.finRange 4).map fun ch => .reg ch 0
def regs1 : List Piece := (List.finRange 4).flatMap fun ch => (List.finRange 7).map fun h => .reg ch h.succ

theorem halves_cover : ∀ p z, (halves.flatMap (strips p z)).Perm (List.range' (8 * p.val) 8) := by decide +kernel
theorem walks_cover : ∀ (p : Fin 8) z, (List.range' (8 * p.val) 8 ++ (walks.map (dstPc z)).flatMap (strips p z)).Perm (List.range 64) := by
  decide +kernel
theorem lefts_cover : ∀ p z, ((regs0 ++ regs1).flatMap (strips p z)).Perm (List.range 64) := by decide +kernel
theorem rights_cover : ∀ p z, ((halves ++ regs1).flatMap (strips p z)).Perm (List.range 64) := by decide +kernel

theorem own_halves (d : Dev nD) (q : PosShare TreeShare) (f : OutC F) :
    (outP d (ownRows d) q f : sProp 𝕄) = bigSepL halves fun w => outP d (w.at d) q f := by
  rw [ownRows_strips]
  exact outP_parts d q f halves _ List.nodup_range' (halves_cover _ _)

/-- The whole result is a device's own block and the rooms for what comes from along the walk. -/
theorem out_split (d : Dev nD) (q : PosShare TreeShare) (f : OutC F) :
    (outP d Finset.univ q f : sProp 𝕄) = iprop(outP d (ownRows d) q f ∗ bigSepL walks fun x => outP d ((dstPc (zOf d) x).at d) q f) := by
  have h := walks_cover (pOf d) (zOf d)
  have hn := h.nodup_iff.mpr List.nodup_range
  rw [← ofStrips_all, ← ofStrips_perm h, outP_append d _ _ hn, ownRows_strips,
    outP_list d q f _ (List.nodup_append.mp hn).2.1, bigSepL_map]

theorem out_left (d : Dev nD) (q : PosShare TreeShare) (f : OutC F) :
    (outP d Finset.univ q f : sProp 𝕄) = bigSepL (regs0 ++ regs1) fun w => outP d (w.at d) q f := by
  rw [← ofStrips_all]
  exact outP_parts d q f _ _ List.nodup_range (lefts_cover _ _)
theorem out_right (d : Dev nD) (q : PosShare TreeShare) (f : OutC F) :
    (outP d Finset.univ q f : sProp 𝕄) = bigSepL (halves ++ regs1) fun w => outP d (w.at d) q f := by
  rw [← ofStrips_all]
  exact outP_parts d q f _ _ List.nodup_range (rights_cover _ _)

/-! ### The scratch -/

/-- The slots, listed. -/
def slots : List (Fin 3 × Fin 2) := (List.finRange 3).flatMap fun t => (List.finRange 2).map fun u => (t, u)
theorem slots_univ : (Finset.univ : Finset (Fin 3 × Fin 2)) = slots.toFinset := by decide
theorem slots_nodup : slots.Nodup := by decide

theorem tmp_split (d : Dev nD) (f : TmpC F) :
    (tmpP d Finset.univ f : sProp 𝕄) = bigSepL slots fun p => tmpP d (slotS p.1 p.2) f := by
  rw [← bigSep_univ_eq_bigSepL slots (by decide) slots_nodup fun p => tmpP d (slotS p.1 p.2) f]
  have hu : (Finset.univ : Finset S3x2x64x1024.Idx) = (Finset.univ : Finset (Fin 3 × Fin 2)).biUnion fun p => slotS p.1 p.2 := by
    ext i
    simp only [Finset.mem_univ, Finset.mem_biUnion, true_and, true_iff]
    exact ⟨(i 0, i 1), mem_slotS.mpr ⟨rfl, rfl⟩⟩
  rw [hu]
  refine pointsTo_biUnion _ _ fun t _ t' _ hn => Finset.disjoint_left.mpr fun i hi hj => hn ?_
  have h1 := mem_slotS.mp hi
  have h2 := mem_slotS.mp hj
  exact Prod.ext (Fin.ext (h1.1.symm.trans h2.1)) (Fin.ext (h1.2.symm.trans h2.2))

/-! ### Rooms -/

theorem xfers_eq : xfers = (slots.map fun p => .rs p.1 p.2) ++ (slots.map fun p => .ag p.1 p.2) ++ walks := by decide +kernel

theorem room_walk (d : Dev nD) : ∀ x ∈ walks, (room d x : sProp 𝕄) = iprop(∃ f, outP d ((dstPc (zOf d) x).at d) fullShare f) := by
  intro x hx
  cases x with
  | rs t u => exact absurd hx ((by decide +kernel : ∀ t u, Xfer.rs t u ∉ walks) t u)
  | ag t u => exact absurd hx ((by decide +kernel : ∀ t u, Xfer.ag t u ∉ walks) t u)
  | sub k t => rfl
  | zz k t => rfl

/-- The result outside a device's own block and the scratch are the rooms of the transfers to it. -/
theorem rooms (d : Dev nD) (f : OutC F) (g : TmpC F) :
    iprop((bigSepL walks fun x => outP d ((dstPc (zOf d) x).at d) fullShare f) ∗ tmpP d Finset.univ g)
      ⊢ (bigSepL xfers (room d) : sProp 𝕄) := by
  rw [tmp_split, xfers_eq, bigSepL_append, bigSepL_append, bigSepL_map, bigSepL_map]
  iintro ⟨Hw, Ht⟩
  isplitl [Ht]
  · isplitl [Ht]
    · iapply (bigSepL_mono (l := slots) fun p _ => (show tmpP d (slotS p.1 p.2) g ⊢ room d (.rs p.1 p.2) from by
        unfold room; iintro H; iexists g; iexact H)) $$ Ht
    · have h : ∀ l : List (Fin 3 × Fin 2), (BI.emp : sProp 𝕄) ⊢ bigSepL l fun p => room d (.ag p.1 p.2) := fun l => by
        induction l with
        | nil => exact .rfl
        | cons p l ih =>
          rw [bigSepL_cons']
          show _ ⊢ iprop(BI.emp ∗ bigSepL l fun p => room d (.ag p.1 p.2))
          iintro -
          isplitr
          · iempintro
          · iapply ih; iempintro
      iapply (h slots)
      iempintro
  · iapply (bigSepL_mono (l := walks) fun x hx => (show outP d ((dstPc (zOf d) x).at d) fullShare f ⊢ room d x from by
        rw [room_walk d x hx]; iintro H; iexists f; iexact H)) $$ Hw

/-! ### At the end -/

/-- The parts of the result, at both shares, make the whole result. -/
theorem out_join (X : Dev nD → OutC F) (d : Dev nD) :
    iprop(bigSepL (regs0 ++ regs1) (fun w => memP X d (.sh w true)) ∗ bigSepL (halves ++ regs1) (fun w => memP X d (.sh w false)))
      ⊢ (outP d Finset.univ fullShare (total X) : sProp 𝕄) :=
  (BI.sep_mono (Entails.of_eq (out_left d (hf true) (total X)).symm) (Entails.of_eq (out_right d (hf false) (total X)).symm)).trans
    (outP_shares d Finset.univ (total X)).2

end Cert.KernelIdeal.Ring

end
-- ==== Proof.Ideal.Open.lean ====
/- The opening of the body: the signals, the wait for the neighbours, the operand copied into place. -/
module

public import proofs.«01_k».proof.Proof.Ideal.Split

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

variable (X : Dev nD → OutC F) (K : GSem nD τ sig → ℕ) (c : Dev nD)

/-! ### The signals -/

/-- What a device owes after so many of its four signals. -/
def owed4 (c : Dev nD) : CellTallies nD τ sig Unit := dues c sends
def owed3 (c : Dev nD) : CellTallies nD τ sig Unit := owed4 c + tallyAt (barCell (nbr 3 c)) () 1
def owed2 (c : Dev nD) : CellTallies nD τ sig Unit := owed3 c + tallyAt (barCell (nbr 2 c)) () 1
def owed1 (c : Dev nD) : CellTallies nD τ sig Unit := owed2 c + tallyAt (barCell (nbr 1 c)) () 1
def owed0 (c : Dev nD) : CellTallies nD τ sig Unit := owed1 c + tallyAt (barCell (nbr 0 c)) () 1

/-- The right to signal a neighbour. -/
def barTok (c : Dev nD) (i : Fin 4) : sProp 𝕄 :=
  iprop(dutyTok ER (barCell (nbr i c)) 0 (opp i) ∗ reached ER (barCell (nbr i c)) 0)

/-- What a signal hands over, seen from its sender: the own room for what comes from that side. -/
def gift (c : Dev nD) (i : Fin 4) : sProp 𝕄 :=
  bigSep (Finset.univ.filter fun x => fromNbr (zOf c) x = i) fun x => iprop(room c x ∗ reached ER (rcvCell c x) 0)

theorem gift_eq (i : Fin 4) : (barPay (nbr i c) (opp i) : sProp 𝕄) = gift c i := by
  unfold barPay gift
  rw [show (Finset.univ.filter fun x => toNbr (zOf (nbr i c)) x = opp i) = Finset.univ.filter fun x => fromNbr (zOf c) x = i from
    Finset.filter_congr fun x _ => to_from x c i]
  refine bigSep_congr fun x hx => ?_
  have h : tgt x (nbr i c) = c := by
    rw [tgt_nbr, (to_from x c i).mpr (Finset.mem_filter.mp hx).2, nbr_opp]
  rw [h]

theorem signal_ok (i : Fin 4) (O : CellTallies nD τ sig Unit) (W : Waits sig Unit) (k : PUnit → BP F) (Q : PUnit → sProp 𝕄) :
    iprop(Known X K ∗ owes (c : Thread nD τ) (O + tallyAt (barCell (nbr i c)) () 1) W ∗ barTok c i ∗ gift c i)
      ⊢ iprop((owes (c : Thread nD τ) O W -∗ wpB c (k ⟨⟩) Q) -∗ wpB c (semSignalWord (nbr i c) barS 1#32 >>= k) Q) := by
  unfold barTok
  iintro ⟨#HK, HO, ⟨Ht, #Hr⟩, Hg⟩ Hk
  ihave #HI := (known_inv X K (mem_bar (nbr i c))) $$ HK
  iapply (Rounds.wp_signal (defs := defs₀ (F := F)) 𝒱₀ ER (Rd X) (c : Thread nD τ) none (dst := (nbr i c : Thread nD τ)) (sem := barS) (r := 0) (d := opp i)
      (κ := K (barCell (nbr i c))) (by rw [duties_bar]; exact Finset.mem_univ _) (amount_bar X (nbr i c) (opp i)) () O rfl) $$ [HO Ht Hg]
  · isplitr; · iexact HI
    isplitl [HO]; · iexact HO
    isplitl [Ht]; · iexact Ht
    isplitl [Hg]
    · iapply (Entails.of_eq ((payload_bar X (nbr i c) (opp i)).trans (gift_eq c i)).symm) $$ Hg
    iexact Hr
  iexact Hk

/-- The wait for the four neighbours. -/
theorem barrier_ok (l : List Xfer) (W : Waits sig Unit) (k : PUnit → BP F) (Q : PUnit → sProp 𝕄) :
    iprop(Known X K ∗ owes (c : Thread nD τ) (dues c l) W ∗ atPos ER (barCell c) 0 ∅ 0 ∗ cred (tallyAt (barCell c) () 4))
      ⊢ iprop(((oweP c l ∗ atPos ER (barCell c) (0 + 1) ∅ 0
          ∗ bigSep Finset.univ fun x : Xfer => iprop(room (tgt x c) x ∗ reached ER (rcvCell (tgt x c) x) 0)) -∗ wpB c (k ⟨⟩) Q)
        -∗ wpB c (semWaitWord barS 4#32 >>= k) Q) := by
  iintro ⟨#HK, HO, Hat, Hc⟩ Hk
  ihave #HI := (known_inv X K (mem_bar c)) $$ HK
  iapply (Rounds.wp_wait_rest_token (defs := defs₀ (F := F)) 𝒱₀ ER (Rd X) (c : Thread nD τ) none (κ := K (barCell c))
      (wpE_semWait_eq 𝒱₀ (c : Thread nD τ) none Set.univ) (Set.mem_univ _) () (O := dues c l) (W := W) (R := 0) (m := 0) (T := ∅)
      ((Nat.zero_add 4).trans (expect_bar X c).symm)) $$ [HO Hat Hc]
  · isplitr; · iexact HI
    isplitl [Hc]; · iexact Hc
    isplitl [HO]; · iexact HO
    isplitr
    · iapply (mayWait_bar c l)
      unfold Known
      icases HK with ⟨-, HL⟩
      unfold Levs
      iexact HL
    iexact Hat
  iintro ⟨HO, Hat, -, Hp⟩
  ihave Hp := (Entails.of_eq (rest_bar X c)) $$ Hp
  iapply Hk
  isplitl [HO]; · unfold oweP; iexists _; iexact HO
  isplitl [Hat]; · iexact Hat
  iexact Hp

/-! ### The operand -/

/-- The operand's staging buffer. -/
abbrev inP (c : Dev nD) (q : PosShare TreeShare) (f : S512x1024.Idx → Elt F .bf16) : sProp 𝕄 :=
  (inM.view.loc (c : Thread nD τ)) ↦[(Finset.univ : Finset inM.view.ty.Idx)]{q} f

/-- The rectangle of the operand, and the one it is copied to. -/
abbrev inR : Rect S512x1024 := Rect.unit (s := S512x1024) ![0, 0] S512x1024.size inb_S512x1024_S512x1024_0_0
abbrev ownR (c : Dev nD) : Rect S4096x1024 := Rect.unit (s := S4096x1024) (k0_off1 c) S512x1024.size (k0_off1_inb c)

theorem ownR_set : (ownR c).set = ownRows c := by
  have h := off1_row c
  rw [ownR, rect_rows _ _ _ h.2 rfl, h.1]; rfl

theorem ownR_in : ((outM.access (ownR c)).set : Finset S4096x1024.Idx) ⊆ ownRows c :=
  ((View.set_slice_whole _ _).trans (ownR_set c)).le

/-- What a device's block is to hold first: its operand's rows. -/
def Operand (X : Dev nD → OutC F) (c : Dev nD) (f : S512x1024.Idx → Elt F .bf16) : Prop :=
  ∀ (r : Fin 512) (j : Fin 1024) (h : 512 * (pOf c).val + r.val < 4096), f (ix2 r j) = X c (cell (512 * (pOf c).val + r.val) h j)

/-- Where a rectangle of unit strides puts an index. -/
theorem unit_idx {s : Shape} (off size : Fin s.rank → Nat) (inb : ∀ a, off a + size a ≤ s.size a) (x : (Rect.unit (s := s) off size inb).shape.Idx) (a : Fin s.rank) :
    ((Rect.unit (s := s) off size inb).idx x a).val = off a + (x a).val := by
  show off a + 1 * (x a).val = _
  rw [Nat.one_mul]

theorem inR_idx (x : S512x1024.Idx) : inR.idx x = ix2 (x 0) (x 1) := by
  funext a
  refine Fin.ext ((unit_idx _ _ _ x a).trans ?_)
  match a with
  | 0 => exact Nat.zero_add _
  | 1 => exact Nat.zero_add _

theorem copied (f : S512x1024.Idx → Elt F .bf16) (hX : Operand X c f) (g : OutC F) (i : S4096x1024.Idx) (hi : i ∈ ownRows c) :
    ((outM.access (ownR c)).write (Elt F) g (k0_pay1 ((inM.access inR).read (Elt F) f)) Finset.univ : OutC F) i = X c i := by
  have hi' : i ∈ (ownR c).set := by rw [ownR_set]; exact hi
  obtain ⟨x, rfl⟩ := LoadRect.exists_idx_of_mem _ hi'
  have := View.write_emb_of_mem (v := outM.access (ownR c)) (Val := Elt F) g
    (k0_pay1 ((inM.access inR).read (Elt F) f)) (Finset.mem_univ x)
  refine this.trans ?_
  have h1 : ∀ v : Vec F S512x1024 .bf16, shapeCast S512x1024 v shapeCasts_S512x1024_S512x1024 = v := fun v => shapeCast_self _ _
  show k0_pay1 ((inM.access inR).read (Elt F) f) x = X c ((ownR c).idx x)
  unfold k0_pay1
  rw [h1]
  have h := off1_row c
  have hx0 : (x 0).val < 512 := (x 0).isLt
  have hp := (pOf c).isLt
  have hr : 512 * (pOf c).val + (x 0).val < 4096 := by omega
  have e := hX (x 0) (x 1) hr
  refine Eq.trans ?_ (e.trans ?_)
  · exact congrArg f (inR_idx x)
  · have e0 : ((ownR c).idx x 0).val = 512 * (pOf c).val + (x 0).val := (unit_idx _ _ _ x 0).trans (congrArg (fun n => n + (x 0).val) h.1)
    have e1 : ((ownR c).idx x 1).val = (x 1).val := (unit_idx _ _ _ x 1).trans (by rw [h.2, Nat.zero_add])
    have e2 : (cell (512 * (pOf c).val + (x 0).val) hr (x 1) 0).val = 512 * (pOf c).val + (x 0).val := rfl
    have e3 : (cell (512 * (pOf c).val + (x 0).val) hr (x 1) 1).val = (x 1).val := rfl
    exact congrArg (X c) (idx_ext (e2.trans e0.symm) (e3.trans e1.symm))

/-- The operand is copied into the device's own block. -/
theorem place_ok (f : S512x1024.Idx → Elt F .bf16) (hX : Operand X c f) (q : PosShare TreeShare) (g : OutC F) (rest : BP F) (Q : PUnit → sProp 𝕄) :
    iprop(inP c q f ∗ outP c (ownRows c) fullShare g)
      ⊢ iprop(((inP c q f ∗ outP c (ownRows c) fullShare (X c)) -∗ wpB c rest Q)
        -∗ wpB c (do
          let v : Vec F S512x1024 .bf16 ← Prog.lift (.load inM inR.toLoadRect (View.loadsAt_vmem h_S512x1024))
          let _o : Vec F S512x1024 .bf16 ← Prog.lift (.load outM (ownR c).toLoadRect (View.loadsAt_vmem h_S512x1024))
          Prog.lift (.store outM (ownR c) (k0_pay1 v) Finset.univ (View.stores_vmem h_S512x1024 (outW.storeExact_slice rfl _ (k0_off1_packedbf16 c)) (fun _ => rfl)) (.inl rfl))
          rest) Q) := by
  iintro ⟨Hi, Ho⟩ Hk
  iapply (wp_load_rect (defs := defs₀ (F := F)) 𝒱₀ (c : Thread nD τ) none Set.univ (m := inM) (r := inR) (f := f) (Finset.subset_univ _)) $$ Hi
  iintro Hi
  iapply (wp_load_rect (defs := defs₀ (F := F)) 𝒱₀ (c : Thread nD τ) none Set.univ (m := outM) (r := ownR c) (f := g) (ownR_in c)) $$ Ho
  iintro Ho
  iapply (wp_store (defs := defs₀ (F := F)) 𝒱₀ (c : Thread nD τ) none Set.univ (m := outM) (r := ownR c) (f := g)
    (by rw [View.setOn_univ]; exact ownR_in c)) $$ Ho
  iintro Ho
  iapply Hk
  isplitl [Hi]; · iexact Hi
  iapply (show _ ⊢ (outP c (ownRows c) fullShare (X c) : sProp 𝕄) from Entails.of_eq (outP_congr c fullShare fun i hi => copied X c f hX g i hi)) $$ Ho

end Cert.KernelIdeal.Ring

end
-- ==== Proof.Ideal.Run.lean ====
/- The operations of the body, run on what a device holds after the opening. -/
module

public import proofs.«01_k».proof.Proof.Ideal.Atoms

@[expose] public section

noncomputable section

namespace Cert.KernelIdeal.Ring

open Cert.KernelIdeal Cert.KernelIdeal.Gen

set_option maxRecDepth 100000 in
/-- The operations run from the one to the other. -/
theorem run_ok : ∀ z, ∃ S, run z ops sends (start z) = some ([], S) ∧ S.Perm (finish z) := by
  have h : ∀ z, ((run z ops sends (start z)).any fun r => r.1.isEmpty && r.2.isPerm (finish z)) = true := by decide +kernel
  intro z
  have h := h z
  rcases e : run z ops sends (start z) with _ | ⟨l, S⟩
  · rw [e] at h; exact absurd h (by simp)
  · rw [e] at h
    simp only [Option.any_some, Bool.and_eq_true, List.isEmpty_iff, List.isPerm_iff] at h
    exact ⟨S, by rw [h.1], h.2⟩

end Cert.KernelIdeal.Ring

end
-- ==== Proof.Ideal.Body.lean ====
/- The whole body at one device: from the operand to the total, every semaphore back at zero. -/
module

public import proofs.«01_k».proof.Proof.Ideal.Open
public import proofs.«01_k».proof.Proof.Ideal.Run

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → OutC F) (K : GSem nD τ sig → ℕ) (c : Dev nD)

theorem listed (Φ : Xfer → sProp 𝕄) : bigSep Finset.univ Φ = bigSepL xfers Φ :=
  bigSep_univ_eq_bigSepL xfers univ_xfers xfers_nodup Φ

/-! ### Before -/

/-- The rights to start each transfer. -/
def rights (c : Dev nD) : sProp 𝕄 :=
  bigSep Finset.univ fun x : Xfer => iprop(dutyTok ER (rcvCell (tgt x c) x) 0 0 ∗ dutyTok ER (sndCell c x) 0 0)
/-- The opened semaphores of a device. -/
def readyR (c : Dev nD) : sProp 𝕄 := bigSep Finset.univ fun x : Xfer => iprop(atPos ER (rcvCell c x) 0 ∅ 0 ∗ reached ER (rcvCell c x) 0)
def readyS (c : Dev nD) : sProp 𝕄 := bigSep Finset.univ fun x : Xfer => iprop(atPos ER (sndCell c x) 0 ∅ 0 ∗ reached ER (sndCell c x) 0)
/-- What the arrivals are waited for with. -/
def creds (c : Dev nD) : sProp 𝕄 := bigSep Finset.univ fun x : Xfer => cred (tallyAt (rcvCell c x) () (amt x))
/-- What the barrier is gone through with. -/
def gate (c : Dev nD) : sProp 𝕄 :=
  iprop(barTok c 0 ∗ barTok c 1 ∗ barTok c 2 ∗ barTok c 3 ∗ atPos ER (barCell c) 0 ∅ 0 ∗ cred (tallyAt (barCell c) () 4))

theorem gifts (f : OutC F) (g : TmpC F) :
    iprop((bigSepL walks fun x => outP c ((dstPc (zOf c) x).at c) fullShare f) ∗ tmpP c Finset.univ g
        ∗ bigSep Finset.univ fun x : Xfer => reached ER (rcvCell c x) 0)
      ⊢ (iprop(gift c 0 ∗ gift c 1 ∗ gift c 2 ∗ gift c 3) : sProp 𝕄) := by
  have h : (bigSep Finset.univ fun x : Xfer => iprop(room c x ∗ reached ER (rcvCell c x) 0) : sProp 𝕄)
      = iprop(gift c 0 ∗ gift c 1 ∗ gift c 2 ∗ gift c 3) := by
    have e : (iprop(gift c 0 ∗ gift c 1 ∗ gift c 2 ∗ gift c 3) : sProp 𝕄) = bigSep Finset.univ (gift (F := F) c) :=
      (bigSep_univ_eq_bigSepL [0, 1, 2, 3] (by decide) (by decide) (gift (F := F) c)).symm
    rw [e]
    unfold gift
    have hU : (Finset.univ : Finset Xfer) = Finset.univ.biUnion fun i : Fin 4 => Finset.univ.filter fun x => fromNbr (zOf c) x = i := by
      ext x; simp
    conv_lhs => rw [hU]
    exact bigSep_biUnion_eq _ _ _ fun i _ j _ hij => Finset.disjoint_filter.mpr fun x _ hx hy => hij (hx.symm.trans hy)
  rw [← h, bigSep_sep', listed (room c)]
  iintro ⟨Hw, Ht, Hr⟩
  isplitr [Hr]
  · iapply (rooms c f g)
    isplitl [Hw] <;> iassumption
  iexact Hr

/-- Some of a list's entries. -/
theorem bigSepL_filter {I : Type} (p : I → Bool) (l : List I) (Φ : I → sProp 𝕄) : bigSepL l Φ ⊢ bigSepL (l.filter p) Φ := by
  induction l with
  | nil => exact .rfl
  | cons a l ih =>
    rw [List.filter_cons, bigSepL_cons']
    split
    · rw [bigSepL_cons']
      iintro ⟨Ha, Hl⟩
      isplitl [Ha]; · iexact Ha
      iapply ih $$ Hl
    · iintro ⟨-, Hl⟩
      iapply ih $$ Hl

theorem halves_map : ((List.finRange 4).flatMap fun ch => (List.finRange 2).map fun u => Atom.mem (.own ch u 0))
    = halves.map fun w => match w with | .half ch u => .mem (.own ch u 0) | .reg ch _ => .mem (.own ch 0 0) := by decide +kernel

/-- What a device holds after the opening is what the list says. -/
theorem start_ok :
    iprop(rights c ∗ (bigSep Finset.univ fun x : Xfer => iprop(room (tgt x c) x ∗ reached ER (rcvCell (tgt x c) x) 0))
        ∗ (bigSep Finset.univ fun x : Xfer => atPos ER (rcvCell c x) 0 ∅ 0) ∗ creds c ∗ readyS c ∗ outP c (ownRows c) fullShare (X c))
      ⊢ (bigSepL (start (zOf c)) (atomP X c) : sProp 𝕄) := by
  unfold start
  rw [bigSepL_append, bigSepL_append, bigSepL_append, bigSepL_append, bigSepL_map, bigSepL_map, bigSepL_map, bigSepL_map, halves_map, bigSepL_map,
    own_halves]
  unfold rights creds readyS
  rw [bigSep_sep', bigSep_sep', bigSep_sep', listed, listed, listed, listed, listed, listed, listed, listed]
  have htok : iprop((bigSepL xfers fun x => dutyTok ER (rcvCell (tgt x c) x) 0 0) ∗ (bigSepL xfers fun x => dutyTok ER (sndCell c x) 0 0)
      ∗ (bigSepL xfers fun x => reached ER (rcvCell (tgt x c) x) 0) ∗ (bigSepL xfers fun x => reached ER (sndCell c x) 0))
      ⊢ (bigSepL xfers (fun x => atomP X c (.tok x)) : sProp 𝕄) := by
    rw [← listed, ← listed, ← listed, ← listed, ← listed]
    show _ ⊢ bigSep Finset.univ fun x : Xfer => iprop(dutyTok ER (rcvCell (tgt x c) x) 0 0 ∗ reached ER (rcvCell (tgt x c) x) 0
      ∗ dutyTok ER (sndCell c x) 0 0 ∗ reached ER (sndCell c x) 0)
    rw [bigSep_sep', bigSep_sep', bigSep_sep']
    iintro ⟨H1, H2, H3, H4⟩
    isplitl [H1]; · iexact H1
    isplitl [H3]; · iexact H3
    isplitl [H2] <;> iassumption
  have hrcv : iprop((bigSepL xfers fun x => atPos ER (rcvCell c x) 0 ∅ 0) ∗ (bigSepL xfers fun x => cred (tallyAt (rcvCell c x) () (amt x))))
      ⊢ (bigSepL xfers (fun x => atomP X c (.rcv x)) : sProp 𝕄) := by
    rw [← listed, ← listed, ← listed]
    show _ ⊢ bigSep Finset.univ fun x : Xfer => iprop(atPos ER (rcvCell c x) 0 ∅ 0 ∗ cred (tallyAt (rcvCell c x) () (amt x)))
    rw [bigSep_sep']
  have hown : (bigSepL halves fun w => outP c (w.at c) fullShare (X c))
      ⊢ (bigSepL halves fun w => atomP X c (match w with | .half ch u => .mem (.own ch u 0) | .reg ch _ => .mem (.own ch 0 0)) : sProp 𝕄) := by
    refine bigSepL_mono fun w hw => ?_
    cases w with
    | half ch u => exact .rfl
    | reg ch h => exact absurd hw ((by decide +kernel : ∀ ch h, Piece.reg ch h ∉ halves) ch h)
  have hroom : (bigSepL xfers fun x => room (tgt x c) x)
      ⊢ (bigSepL (xfers.filter fun x => !(x matches .ag ..)) (fun x => atomP X c (.mem (.dst x))) : sProp 𝕄) :=
    bigSepL_filter _ xfers fun x => atomP X c (.mem (.dst x))
  iintro ⟨⟨H1, H2⟩, ⟨Hroom, H3⟩, Hat, Hc, ⟨Hs, H4⟩, Ho⟩
  isplitr [Hroom]
  · isplitr [Ho]
    · isplitr [Hs]
      · isplitr [Hat Hc]
        · iapply htok
          isplitl [H1]; · iexact H1
          isplitl [H2]; · iexact H2
          isplitl [H3] <;> iassumption
        · iapply hrcv
          isplitl [Hat] <;> iassumption
      · iexact Hs
    · iapply hown $$ Ho
  · iapply hroom $$ Hroom

/-! ### After -/

theorem slots_map : ((List.finRange 3).flatMap fun t => (List.finRange 2).map fun u => Atom.mem (.slot t u))
    = slots.map fun p => .mem (.slot p.1 p.2) := by decide +kernel
theorem lefts_map : ((List.finRange 4).map fun ch => Atom.mem (.sh (.reg ch 0) true)) = regs0.map fun w => .mem (.sh w true) := by decide +kernel
theorem halfs_map : ((List.finRange 4).flatMap fun ch => (List.finRange 2).map fun u => Atom.mem (.sh (.half ch u) false))
    = halves.map fun w => .mem (.sh w false) := by decide +kernel
theorem regs_map : ∀ b : Bool, ((List.finRange 4).flatMap fun ch => ((List.finRange 7).map fun h => Atom.mem (.sh (.reg ch h.succ) b)))
    = regs1.map fun w => .mem (.sh w b) := by decide +kernel

/-- What the list says a device holds at the end. -/
theorem finish_ok :
    (bigSepL (finish (zOf c)) (atomP X c) : sProp 𝕄)
      ⊢ iprop((bigSep Finset.univ fun x : Xfer => atPos ER (rcvCell c x) (0 + 1) ∅ 0) ∗ (bigSep Finset.univ fun x : Xfer => atPos ER (sndCell c x) (0 + 1) ∅ 0)
        ∗ outP c Finset.univ fullShare (total X) ∗ ∃ g, tmpP c Finset.univ g) := by
  unfold finish
  rw [slots_map, lefts_map, halfs_map, regs_map, regs_map]
  simp only [bigSepL_append, bigSepL_map]
  rw [listed, listed]
  have h1 : (bigSepL slots fun p => atomP X c (.mem (.slot p.1 p.2))) ⊢ (iprop(∃ g, tmpP c Finset.univ g) : sProp 𝕄) := by
    have e : (tmpP c Finset.univ (landed X c) : sProp 𝕄) = bigSepL slots fun p => atomP X c (.mem (.slot p.1 p.2)) := tmp_split c (landed X c)
    iintro H
    iexists landed X c
    iapply (Entails.of_eq e.symm) $$ H
  have h2 : iprop((bigSepL regs0 fun w => atomP X c (.mem (.sh w true))) ∗ (bigSepL halves fun w => atomP X c (.mem (.sh w false)))
      ∗ (bigSepL regs1 fun w => atomP X c (.mem (.sh w true))) ∗ (bigSepL regs1 fun w => atomP X c (.mem (.sh w false))))
      ⊢ (outP c Finset.univ fullShare (total X) : sProp 𝕄) := by
    refine (show _ ⊢ iprop(bigSepL (regs0 ++ regs1) (fun w => memP X c (.sh w true)) ∗ bigSepL (halves ++ regs1) (fun w => memP X c (.sh w false))) from ?_).trans
      (out_join X c)
    rw [bigSepL_append, bigSepL_append]
    iintro ⟨H1, H2, H3, H4⟩
    isplitl [H1 H3]
    · isplitl [H1]; · iexact H1
      iexact H3
    · isplitl [H2]; · iexact H2
      iexact H4
  iintro ⟨⟨⟨⟨⟨⟨Hf, Hs⟩, Ht⟩, H1⟩, H2⟩, H3⟩, H4⟩
  isplitl [Hf]; · iexact Hf
  isplitl [Hs]; · iexact Hs
  isplitl [H1 H2 H3 H4]
  · iapply h2
    isplitl [H1]; · iexact H1
    isplitl [H2]; · iexact H2
    isplitl [H3] <;> iassumption
  iapply h1 $$ Ht

/-- A spent semaphore is handed back at zero. -/
theorem close (g : GSem nD τ sig) (hg : g ∈ barCells ∪ scCells) :
    iprop(Known X K ∗ atPos ER g (0 + 1) ∅ 0) ⊢ (|={Set.univ}=> semVal g 0 : sProp 𝕄) := by
  have h : iprop(cellInv ER (Rd X) (K g) g ∗ atPos ER g (0 + 1) ∅ 0) ⊢ (|={Set.univ}=> semVal g 0 : sProp 𝕄) :=
    Rounds.cell_close ER (Rd X) (Set.mem_univ (K g)) id (duties_later X g)
  iintro ⟨#HK, Hat⟩
  ihave #HI := (known_inv X K hg) $$ HK
  iapply h
  isplitr; · iexact HI
  iexact Hat

/-- A family of updates under something known. -/
theorem each_known {I : Type} [DecidableEq I] (P : sProp 𝕄) [BI.Persistent P] (s : Finset I) (Φ Ψ : I → sProp 𝕄)
    (h : ∀ i, iprop(P ∗ Φ i) ⊢ (|={Set.univ}=> Ψ i : sProp 𝕄)) : iprop(P ∗ bigSep s Φ) ⊢ (|={Set.univ}=> bigSep s Ψ : sProp 𝕄) := by
  induction s using Finset.induction_on with
  | empty =>
    rw [bigSep_empty, bigSep_empty]
    iintro ⟨-, H⟩
    imodintro
    iexact H
  | insert i s hi ih =>
    rw [bigSep_insert hi, bigSep_insert hi]
    show iprop(P ∗ Φ i ∗ bigSep s Φ) ⊢ (|={Set.univ}=> iprop(Ψ i ∗ bigSep s Ψ) : sProp 𝕄)
    iintro ⟨#HP, Hi, Hs⟩
    imod (h i) $$ [Hi] with Hi
    · isplitr; · iexact HP
      iexact Hi
    imod ih $$ [Hs] with Hs
    · isplitr; · iexact HP
      iexact Hs
    imodintro
    isplitl [Hi] <;> iassumption

/-! ### The body -/

def bodyPre (c : Dev nD) (W : Waits sig Unit) : sProp 𝕄 :=
  iprop(Known X K ∗ owes (c : Thread nD τ) (owed0 c) W ∗ gate c ∗ rights c ∗ readyR c ∗ readyS c ∗ creds c
    ∗ (∃ g, outP c Finset.univ fullShare g) ∗ ∃ g, tmpP c Finset.univ g)
def bodyPost (c : Dev nD) : sProp 𝕄 :=
  iprop(outP c Finset.univ fullShare (total X) ∗ (∃ g, tmpP c Finset.univ g) ∗ semVal (barCell c) 0
    ∗ (bigSep Finset.univ fun x : Xfer => semVal (rcvCell c x) 0) ∗ (bigSep Finset.univ fun x : Xfer => semVal (sndCell c x) 0)
    ∗ ∃ W, owes (c : Thread nD τ) (0 : CellTallies nD τ sig Unit) W)

theorem device_ok (k : Dev nD → BP F) (Q : PUnit → sProp 𝕄) : wpB c (k c) Q ⊢ wpB c (Prog.lift .deviceId >>= k) Q :=
  Entails.of_eq (wp_deviceId (defs := defs₀ (F := F)) 𝒱₀ (c : Thread nD τ) none Set.univ (k := k)).symm

theorem return_ok (Q : PUnit → sProp 𝕄) : (|={Set.univ}=> Q ⟨⟩ : sProp 𝕄) ⊢ wpB c (pure ⟨⟩) Q := by
  show _ ⊢ wpB c (.ret ⟨⟩) Q
  unfold wpB
  rw [wp_ret]

theorem body_ok (f : S512x1024.Idx → Elt F .bf16) (hX : Operand X c f) (q : PosShare TreeShare) (W : Waits sig Unit) (Q : PUnit → sProp 𝕄) :
    iprop(bodyPre X K c W ∗ inP c q f ∗ ((bodyPost X c ∗ inP c q f) -∗ Q ⟨⟩)) ⊢ wpB c (flat (F := F)) Q := by
  unfold flat
  refine (show _ ⊢ wpB c (openP c (runOps c ops)) Q from ?_).trans (device_ok c (fun d => openP d (runOps d ops)) Q)
  unfold openP
  rw [nbr0_eq, nbr1_eq, nbr2_eq, nbr3_eq]
  unfold bodyPre gate readyR
  rw [bigSep_sep']
  iintro ⟨⟨#HK, HO, ⟨Ht0, Ht1, Ht2, Ht3, HaB, HcB⟩, Hri, ⟨Hat, #Hr⟩, HrS, Hcr, ⟨%g, Hout⟩, ⟨%g', Htmp⟩⟩, Hin, Hk⟩
  ihave Hout := (Entails.of_eq (out_split c fullShare g)) $$ Hout
  icases Hout with ⟨Hown, Hw⟩
  ihave Hg := (gifts c g g') $$ [Hw Htmp]
  · isplitl [Hw]; · iexact Hw
    isplitl [Htmp]; · iexact Htmp
    iexact Hr
  icases Hg with ⟨Hg0, Hg1, Hg2, Hg3⟩
  iapply (signal_ok X K c 0 (owed1 c) W) $$ [HO Ht0 Hg0]
  · isplitr; · iexact HK
    isplitl [HO]; · iexact HO
    isplitl [Ht0] <;> iassumption
  iintro HO
  iapply (signal_ok X K c 1 (owed2 c) W) $$ [HO Ht1 Hg1]
  · isplitr; · iexact HK
    isplitl [HO]; · iexact HO
    isplitl [Ht1] <;> iassumption
  iintro HO
  iapply (signal_ok X K c 2 (owed3 c) W) $$ [HO Ht2 Hg2]
  · isplitr; · iexact HK
    isplitl [HO]; · iexact HO
    isplitl [Ht2] <;> iassumption
  iintro HO
  iapply (signal_ok X K c 3 (owed4 c) W) $$ [HO Ht3 Hg3]
  · isplitr; · iexact HK
    isplitl [HO]; · iexact HO
    isplitl [Ht3] <;> iassumption
  iintro HO
  iapply (barrier_ok X K c sends W) $$ [HO HaB HcB]
  · isplitr; · iexact HK
    isplitl [HO]; · iexact HO
    isplitl [HaB] <;> iassumption
  iintro ⟨HO, HaB, Hrooms⟩
  iapply (place_ok X c f hX q g) $$ [Hin Hown]
  · isplitl [Hin] <;> iassumption
  iintro ⟨Hin, Hown⟩
  ihave HS := (start_ok X c) $$ [Hri Hrooms Hat Hcr HrS Hown]
  · isplitl [Hri]; · iexact Hri
    isplitl [Hrooms]; · iexact Hrooms
    isplitl [Hat]; · iexact Hat
    isplitl [Hcr]; · iexact Hcr
    isplitl [HrS] <;> iassumption
  obtain ⟨S, hrun, hperm⟩ := run_ok (zOf c)
  iapply (run_sound X K c ops sends [] (start (zOf c)) S hrun Q)
  isplitr; · iexact HK
  isplitl [HO]; · iexact HO
  isplitl [HS]; · iexact HS
  iintro ⟨HO, HS⟩
  ihave HS := (bigSepL_perm' hperm (atomP X c)) $$ HS
  ihave HS := (finish_ok X c) $$ HS
  icases HS with ⟨Hf, Hs, Ho, Ht⟩
  iapply (return_ok c Q)
  imod (close X K (barCell c) (mem_bar c)) $$ [HaB] with Hb0
  · isplitr; · iexact HK
    iexact HaB
  imod (each_known (Known X K) Finset.univ _ (fun x => semVal (rcvCell c x) 0) fun x => close X K (rcvCell c x) (mem_rcv c x)) $$ [Hf] with Hf0
  · isplitr; · iexact HK
    iexact Hf
  imod (each_known (Known X K) Finset.univ _ (fun x => semVal (sndCell c x) 0) fun x => close X K (sndCell c x) (mem_snd c x)) $$ [Hs] with Hs0
  · isplitr; · iexact HK
    iexact Hs
  imodintro
  iapply Hk
  isplitr [Hin]
  · unfold bodyPost
    isplitl [Ho]; · iexact Ho
    isplitl [Ht]; · iexact Ht
    isplitl [Hb0]; · iexact Hb0
    isplitl [Hf0]; · iexact Hf0
    isplitl [Hs0]; · iexact Hs0
    unfold oweP
    iexact HO
  iexact Hin

end Cert.KernelIdeal.Ring

end
-- ==== Proof.Ideal.Pipe.lean ====
/- The kernel as the pipeline runs it: what its two windows hold before and after the body. -/
module

public import proofs.«01_k».proof.Proof.Ideal.Body
public import proofs.«01_k».proof.Proof.Gen.KernelIdeal.Points
public import proofs.«01_k».proof.Proof.Gen.KernelIdeal.Regions
public import Idealize.ShloMosaic.Lib.Pipeline.Value

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The operand of each device, and what the host hands to the kernel there. -/
def argOf (c : Dev nD) : OutC F := m ((c : Thread nD τ).loc main_arg0)
def blkOf (c : Dev nD) : (cc0_stg0_0 : Ref sig .tc).ty.Contents (Elt F) := V3 m c main_v16
/-- What the kernel leaves in its result. -/
def outs : Outs (F := F) := fun _ r c => if h : r = main_v17 then h ▸ (total (argOf m) : (main_v17 : Ref sig .tc).ty.Contents (Elt F)) else m ((c : Thread nD τ).loc r)

theorem outs_v17 (c : Dev nD) : outs m 4 main_v17 c = total (argOf m) := rfl

/-- What a device needs besides memory: everything `bodyPre` asks for but the two buffers. -/
def opened (c : Dev nD) : sProp 𝕄 :=
  iprop((∃ K, Known (argOf m) K) ∗ gate c ∗ rights c ∗ readyR c ∗ readyS c ∗ creds c)
/-- What is left of the semaphores. -/
def closed (c : Dev nD) : sProp 𝕄 :=
  iprop(semVal (barCell c) 0 ∗ (bigSep Finset.univ fun x => semVal (rcvCell c x) 0) ∗ bigSep Finset.univ fun x => semVal (sndCell c x) 0)

def dat (c : Dev nD) : Dat τ (Elt F) Unit ℕ UU ℕ cfg0 c where
  A w := match w with
    | ⟨0, _⟩ => V3 m c main_v16
    | ⟨1, _⟩ => V3 m c main_v17
  after w _ := match w with
    | ⟨0, _⟩ => blkOf m c
    | ⟨1, _⟩ => total (argOf m)
  Φ t := if t.val = 0 then iprop(opened m c ∗ (∃ g, tmpP c Finset.univ g) ∗ ∃ r, prngReg c r) else iprop(closed c ∗ (∃ g, tmpP c Finset.univ g) ∗ ∃ r, prngReg c r)
  q _ := fullShare
  owed t := if t.val = 0 then owed0 c else 0

def pdats : (p : Fin 1) → (c : Dev nD) → Dat τ (Elt F) Unit ℕ UU ℕ (cfgs p) c := fun _ c => dat m c

theorem share_eq (c : Dev nD) (w : Fin cfg0.W) : (dat m c).share w = fullShare := by unfold Dat.share; split <;> rfl

theorem owed_zero (c : Dev nD) : (dat m c).owed 0 = owed0 c := by
  show (if ((0 : Fin (cfg0.N + 1)).val = 0) then owed0 c else 0) = owed0 c; exact if_pos rfl
theorem owed_first (c : Dev nD) : (dat m c).owed t0_0.castSucc = owed0 c := by
  show (if (t0_0.castSucc : Fin (cfg0.N + 1)).val = 0 then owed0 c else 0) = owed0 c; exact if_pos rfl
theorem owed_last (c : Dev nD) : (dat m c).owed (Fin.last _) = 0 := by
  show (if (Fin.last cfg0.N).val = 0 then owed0 c else 0) = 0
  rw [Fin.val_last, if_neg (by rw [show cfg0.N = 1 from N_0]; decide)]

/-! ### The windows -/

theorem emb_in (t : Fin cfg0.N) (i : (cfg0.win (0 : Fin 2)).block.Idx) : ((cfg0.win (0 : Fin 2)).blk t).view.emb i = i := by
  funext a
  refine Fin.ext ?_
  show 0 * S512x1024.size a + 1 * (i a).val = (i a).val
  rw [Nat.zero_mul, Nat.zero_add, Nat.one_mul]
theorem emb_out (t : Fin cfg0.N) (i : (cfg0.win (1 : Fin 2)).block.Idx) : ((cfg0.win (1 : Fin 2)).blk t).view.emb i = i := by
  funext a
  refine Fin.ext ?_
  show 0 * S4096x1024.size a + 1 * (i a).val = (i a).val
  rw [Nat.zero_mul, Nat.zero_add, Nat.one_mul]

/-- The input window holds what the host handed over. -/
theorem before_in (c : Dev nD) (d) : (dat m c).before (0 : Fin 2) t0_0 d = blkOf m c := by
  rw [Dat.before_fetched _ _ _ (fetch0_0 _)]
  change (dat m c).blockOf (0 : Fin 2) t0_0 = _
  unfold Dat.blockOf
  funext i
  rw [View.read_apply, emb_in]
  rfl

theorem arr_in (c : Dev nD) (n : Nat) : (dat m c).arrAt (0 : Fin 2) n = V3 m c main_v16 := (dat m c).arrAt_in (0 : Fin 2) rfl n
theorem arr_out (c : Dev nD) : (dat m c).arrAt (1 : Fin 2) cfg0.N = total (argOf m) := by
  refine (dat m c).arrAt_eq_of_cover (1 : Fin 2) (total (argOf m)) (fun t _ => ?_) fun i => ⟨t0_0, flush0_1 _, Finset.mem_map.mpr ⟨i, Finset.mem_univ _, emb_out _ i⟩⟩
  funext i
  rw [View.read_apply, emb_out]
  rfl

/-! ### What is owed -/

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound
  rw [h0, show (dat m c).recorded t = Set.univ from rfl]
  iintro HO
  iexists W
  isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin
  rw [h0]
  iintro ⟨%W, -, HO⟩
  iexists W
  iexact HO

/-! ### The body -/

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

set_option maxRecDepth 16000 in
/-- The body takes its windows from what they hold before to what they hold after. -/
theorem body_obligation (hX : ∀ c, Operand (argOf m) c (blkOf m c)) (c : Dev nD) :
    BodyObligation (dat m c) (defs₀ (F := F)) 𝒱₀ () Set.univ := fun t => by
  obtain rfl := fin_N0 t
  rw [bigSep_W0, bigSep_W0]
  rw [show (dat m c).Φ t0_0.castSucc = iprop(opened m c ∗ (∃ g, tmpP c Finset.univ g) ∗ ∃ r, prngReg c r) from rfl,
    show (dat m c).Φ t0_0.succ = iprop(closed c ∗ (∃ g, tmpP c Finset.univ g) ∗ ∃ r, prngReg c r) from rfl]
  show iprop((opened m c ∗ (∃ g, tmpP c Finset.univ g) ∗ ∃ r, prngReg c r) ∗ (dat m c).owesAt () t0_0.castSucc
      ∗ (∃ d, owns (c : Thread nD τ) inM fullShare ((dat m c).before (0 : Fin 2) t0_0 d))
      ∗ ∃ d, owns (c : Thread nD τ) outM fullShare ((dat m c).before (1 : Fin 2) t0_0 d))
    ⊢ wpB c (cc0_body (F := F) inM inW outM outW tmpM tmpW cc0_scratch1 cc0_scratch2 cc0_scratch3 cc0_scratch4 cc0_scratch5 cc0_scratch6)
      fun _ => iprop((closed c ∗ (∃ g, tmpP c Finset.univ g) ∗ ∃ r, prngReg c r) ∗ (dat m c).owesAt () t0_0.succ
        ∗ owns (c : Thread nD τ) inM fullShare (blkOf m c) ∗ owns (c : Thread nD τ) outM fullShare (total (argOf m)))
  simp only [owns_whole_eq, before_in]
  rw [body_flat]
  unfold opened
  iintro ⟨⟨⟨⟨%K, HK⟩, Hg, Hri, HrR, HrS, Hc⟩, Ht, Hp⟩, HO, ⟨%d, %f, %hf, Hin⟩, ⟨%d', %f', %hf', Hout⟩⟩
  subst hf
  ihave HO' := (owesAt_elim m c _ (owed0 c) (owed_first m c)) $$ HO
  icases HO' with ⟨%W, HO⟩
  iapply (body_ok (argOf m) K c (blkOf m c) (hX c) fullShare W _)
  isplitl [HK HO Hg Hri HrR HrS Hc Hout Ht]
  · unfold bodyPre
    isplitl [HK]; · iexact HK
    isplitl [HO]; · iexact HO
    isplitl [Hg]; · iexact Hg
    isplitl [Hri]; · iexact Hri
    isplitl [HrR]; · iexact HrR
    isplitl [HrS]; · iexact HrS
    isplitl [Hc]; · iexact Hc
    isplitl [Hout]; · iexists f'; iexact Hout
    iexact Ht
  isplitl [Hin]; · iexact Hin
  unfold bodyPost closed
  iintro ⟨⟨Ho, Ht, Hb, Hr, Hs, ⟨%W', HO⟩⟩, Hin⟩
  isplitl [Hb Hr Hs Ht Hp]
  · isplitl [Hb Hr Hs]
    · isplitl [Hb]; · iexact Hb
      isplitl [Hr] <;> iassumption
    isplitl [Ht] <;> iassumption
  isplitl [HO]; · iapply (owesAt_intro m c t0_0.succ 0 (owed_last m c) W'); iexact HO
  isplitl [Hin]
  · iexists (blkOf m c)
    isplitr; · ipureintro; rfl
    iexact Hin
  · iexists (total (argOf m))
    isplitr; · ipureintro; rfl
    iexact Ho

end Cert.KernelIdeal.Ring

end
-- ==== Proof.Ideal.Region.lean ====
/- The kernel's call as a step of the program: entered with the exchange's ghost state still
   unopened, left with the result written and every semaphore at zero. -/
module

public import proofs.«01_k».proof.Proof.Ideal.Pipe

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ### The kernel's own semaphores -/

/-- Of every transfer, the semaphore of its arrival and that of its departure. -/
def osem (k : Xfer × Bool) : SemLoc sig := .dma (if k.2 then rcvSem k.1 else sndSem k.1)

theorem role_osem (k : Xfer × Bool) : role (osem k) = some (if k.2 then .rcv k.1 else .snd k.1) := by
  obtain ⟨x, b⟩ := k
  cases b
  · exact role_snd x
  · exact role_rcv x

theorem osem_facts : Pipeline.OwnSemFacts spec0 osem where
  isScoped := by decide +kernel
  inj := fun a b h => by
    have h1 := congrArg role h
    rw [role_osem, role_osem] at h1
    obtain ⟨x, i⟩ := a
    obtain ⟨y, j⟩ := b
    cases i <;> cases j <;> simp_all
  disj := by decide +kernel

theorem own_eq (c : Dev nD) : (Pipeline.ownSems0 (Ix := Unit) (Name := ℕ) (U := UU) (Lvl := ℕ) (Val := Elt F) (τ := τ) osem c : sProp 𝕄)
    = iprop((bigSep Finset.univ fun x => semVal (sndCell c x) 0) ∗ bigSep Finset.univ fun x => semVal (rcvCell c x) 0) := by
  unfold Pipeline.ownSems0
  rw [bigSep_univ_prod, ← bigSep_sep']
  refine bigSep_congr fun x _ => ?_
  exact bigSep_univ_eq_bigSepL [false, true] (by decide) (by decide) (fun b : Bool => (semVal ((c : Thread nD τ), osem (x, b)) 0 : sProp 𝕄))

/-! ### Before and after the call -/

/-- Every cell's invariant. -/
def Invs (K : GSem nD τ sig → ℕ) : sProp 𝕄 := bigSep (barCells ∪ scCells) fun g => cellInv ER (Rd (argOf m)) (K g) g
instance Invs_persistent (K : GSem nD τ sig → ℕ) : BI.Persistent (Invs m K) := by unfold Invs; infer_instance

theorem invs_at (K : GSem nD τ sig → ℕ) {g : GSem nD τ sig} (hg : g ∈ barCells ∪ scCells) : Invs m K ⊢ cellInv ER (Rd (argOf m)) (K g) g := by
  unfold Invs; exact bigSep_elim hg

/-- The rights to open a device's arrival and departure cells. -/
def shutR (c : Dev nD) : sProp 𝕄 := bigSep Finset.univ fun x : Xfer => openTok ER (rcvCell c x)
def shutS (c : Dev nD) : sProp 𝕄 := bigSep Finset.univ fun x : Xfer => openTok ER (sndCell c x)

/-- What the program keeps for the call from its launch on. -/
def kept (c : Dev nD) : sProp 𝕄 :=
  iprop((∃ K, Invs m K) ∗ gate c ∗ rights c ∗ shutR c ∗ shutS c ∗ creds c)

theorem open_cell (K : GSem nD τ sig → ℕ) {g : GSem nD τ sig} (hg : g ∈ barCells ∪ scCells) :
    iprop(Invs m K ∗ (openTok ER g ∗ semVal g 0)) ⊢ (|={Set.univ}=> iprop(atPos ER g 0 ∅ 0 ∗ reached ER g 0) : sProp 𝕄) := by
  iintro ⟨#HI, Ho, Hv⟩
  iapply (Rounds.cell_open ER (Rd (argOf m)) (g := g) (Set.mem_univ (K g)))
  isplitr; · iapply (invs_at m K hg); iexact HI
  isplitl [Ho] <;> iassumption

/-- Entering the call: the kernel's own counters, at zero, open their cells. -/
theorem open_all (c : Dev nD) :
    iprop(kept m c ∗ Pipeline.ownSems0 osem c ∗ levAts L lv) ⊢ (|={Set.univ}=> opened m c : sProp 𝕄) := by
  rw [own_eq]
  unfold kept opened shutR shutS readyR readyS Known
  iintro ⟨⟨⟨%K, #HI⟩, Hg, Hri, HoR, HoS, Hc⟩, ⟨HvS, HvR⟩, #HL⟩
  imod (each_known (Invs m K) Finset.univ (fun x : Xfer => iprop(openTok ER (rcvCell c x) ∗ semVal (rcvCell c x) 0)) _
    fun x => open_cell m K (mem_rcv c x)) $$ [HoR HvR] with HR
  · isplitr; · iexact HI
    rw [bigSep_sep']
    isplitl [HoR] <;> iassumption
  imod (each_known (Invs m K) Finset.univ (fun x : Xfer => iprop(openTok ER (sndCell c x) ∗ semVal (sndCell c x) 0)) _
    fun x => open_cell m K (mem_snd c x)) $$ [HoS HvS] with HS
  · isplitr; · iexact HI
    rw [bigSep_sep']
    isplitl [HoS] <;> iassumption
  imodintro
  isplitr
  · iexists K
    isplitr; · unfold Invs; iexact HI
    unfold Levs; iexact HL
  isplitl [Hg]; · iexact Hg
  isplitl [Hri]; · iexact Hri
  isplitl [HR]; · iexact HR
  isplitl [HS]; · iexact HS
  iexact Hc

theorem enter (c : Dev nD) : iprop(Pipeline.scopedRest (Pipeline.pin (pcfgs (F := F)) adm 0).spec c ∗ (∃ r, prngReg c r)
      ∗ StableHlo.held (c.tc : Thread nD τ) ∅ (V3 m c) ∗ opened m c)
    ⊢ (pdats m 0 c).Φ 0 := by
  rw [show (pdats m 0 c).Φ 0 = iprop(opened m c ∗ (∃ g, tmpP c Finset.univ g) ∗ ∃ r, prngReg c r) from rfl]
  rw [show (Pipeline.scopedRest (Ix := Unit) (Name := ℕ) (U := UU) (Lvl := ℕ) (Val := Elt F) (Pipeline.pin (pcfgs (F := F)) adm 0).spec c : sProp 𝕄)
    = iprop(∃ g, tmpP c Finset.univ g) from scopedRest0_eq c]
  iintro ⟨Hs, Hp, -, Ho⟩
  isplitl [Ho]; · iexact Ho
  isplitl [Hs] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V4 m (outs m) c) ∗ Pipeline.ownSems0 osem c ∗ semVal (barCell c) 0) := by
  rw [show (pdats m 0 c).Φ (Fin.last _) = iprop(closed c ∗ (∃ g, tmpP c Finset.univ g) ∗ ∃ r, prngReg c r) from rfl, own_eq]
  rw [show (Pipeline.scopedRest (Ix := Unit) (Name := ℕ) (U := UU) (Lvl := ℕ) (Val := Elt F) (Pipeline.pin (pcfgs (F := F)) adm 0).spec c : sProp 𝕄)
    = iprop(∃ g, tmpP c Finset.univ g) from scopedRest0_eq c]
  unfold StableHlo.held closed
  rw [BI.bigSep_empty]
  iintro ⟨⟨Hb, HR, HS⟩, Ht, Hp⟩
  isplitl [Ht]; · iexact Ht
  isplitl [Hp]; · iexact Hp
  isplitr; · iempintro
  isplitl [HR HS]; · isplitl [HS] <;> iassumption
  iexact Hb

/-! ### The call -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed0_pos {c : Dev nD} {g : GSem nD τ sig} {u : Unit} (h : 0 < owed0 c g u) :
    (∃ e, g = barCell e) ∨ ∃ e x, g = rcvCell e x := by
  have cut {O : CellTallies nD τ sig Unit} {e : Dev nD} (h : 0 < (O + tallyAt (barCell e) () 1) g u) : g = barCell e ∨ 0 < O g u := by
    rw [Pi.add_apply, Finsupp.add_apply, tallyAt_apply] at h
    by_cases hg : g = barCell e
    · exact .inl hg
    · rw [if_neg (fun e => hg e.1)] at h; exact .inr h
  rcases cut h with h | h
  · exact .inl ⟨_, h⟩
  rcases cut h with h | h
  · exact .inl ⟨_, h⟩
  rcases cut h with h | h
  · exact .inl ⟨_, h⟩
  rcases cut h with h | h
  · exact .inl ⟨_, h⟩
  obtain ⟨x, -, e⟩ := dues_pos h
  exact .inr ⟨_, x, e⟩

theorem above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then owed0 c else 0 := rfl
  rw [e] at h
  split at h
  · rcases owed0_pos h with ⟨d, rfl⟩ | ⟨d, x, rfl⟩
    · exact ⟨by rw [L_tc]; exact Finset.mem_singleton_self _, by rw [lv_bar]; decide⟩
    · exact ⟨by rw [L_tc]; exact Finset.mem_singleton_self _, by rw [lv_rcv]; omega⟩
  · exact absurd h (Nat.lt_irrefl 0)

theorem stage_role : ∀ (w : Fin 2) (s : Fin (spec0 w).nbuf), role (.dma ((spec0 w).sem s)) = none := by decide +kernel
theorem stage_low (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  dsimp only [lv]
  rw [show role (.dma (((Pipeline.pin (pcfgs (F := F)) adm 0).win w).sem s)) = none from stage_role w s]

/-- The two arrays of the call's windows, and the other buffers. -/
abbrev arrs : Finset (DevRef τ sig) := Pipeline.arrRefs (τ := τ) (pcfgs (F := F) 0).spec
abbrev others : Finset (DevRef τ sig) := Pipeline.ucRefs τ sig \ arrs (F := F)

theorem arrs_sub : arrs (F := F) ⊆ Pipeline.ucRefs τ sig := Pipeline.arrRefs_sub_ucRefs _ winFacts0.arr_unscoped
theorem v17_arr : Proc.devRef .tc main_v17 ∈ arrs (F := F) :=
  Finset.mem_map.mpr ⟨main_v17, Finset.mem_image.mpr ⟨(1 : Fin 2), Finset.mem_univ _, rfl⟩, rfl⟩

theorem others_kept (c : Dev nD) : ∀ b ∈ others (F := F) \ ∅, V4 m (outs m) c b = V3 m c b := fun b hb => by
  have h : b ≠ Proc.devRef .tc main_v17 := fun e =>
    (Finset.mem_sdiff.mp (Finset.mem_sdiff.mp hb).1).2 (e ▸ v17_arr (F := F))
  exact Function.update_of_ne h _ _

local notation "ℝ𝕊" => Pipeline.RegionSeg (pcfgs (F := F)) adm (pdats m) () defs₀ 𝒱₀ L lv

set_option backward.isDefEq.respectTransparency.types false in
def call (hX : ∀ c, Operand (argOf m) c (blkOf m c)) : ℝ𝕊 0 :=
  Pipeline.RegionSeg.ofTalk (pcfgs (F := F)) adm (pdats m) () defs₀ 𝒱₀ L lv 0 osem osem_facts
    ∅ (others (F := F)) (Finset.empty_subset _) kit0 rfl (fun c => (body_obligation m hX c).loose)
    (fun _ => 0) owed0 (fun c => (owed_zero m c).trans (zero_add _).symm) (owed_last m) (fun _ => rfl) (share_eq m)
    (V3 m) (V4 m (outs m)) (others_kept m)
    (kept m) (fun c => semVal (barCell c) 0) (opened m) (fun c => semVal (barCell c) 0) (open_all m) (enter m) (leave m)
    (fun c => by iintro H; imodintro; iexact H)
    (fun _ => 0)
    ⟨fun c w s => by rw [L_tc]; exact Finset.mem_singleton_self _, fun c w s => stage_low c w s, fun c t g i h => above m c t g i h⟩
    (fun _ => iprop(emp))
    (fun c w => match w with | ⟨0, _⟩ => rfl | ⟨1, _⟩ => rfl)
    (fun c w => match w with
      | ⟨0, _⟩ => (arr_in m c _).trans (V4_of m (outs m) c main_v16 (by decide)).symm
      | ⟨1, _⟩ => (arr_out m c).trans (Function.update_self (f := V3 m c) (Proc.devRef .tc main_v17) _).symm)

/-- What the program carries beside its buffers, before the call and after it. -/
def beside0 (c : Dev nD) : sProp 𝕄 := iprop(kept m c ∗ (∃ r, prngReg c r) ∗ ∃ W, owes (c : Thread nD τ) (owed0 c) W)
def beside1 (c : Dev nD) : sProp 𝕄 := iprop(semVal (barCell c) 0 ∗ ∃ W, owes (c : Thread nD τ) (0 : CellTallies nD τ sig Unit) W)

theorem call_pre (hX : ∀ c, Operand (argOf m) c (blkOf m c)) (c : Dev nD) :
    iprop(StableHlo.held (c : Thread nD τ) (Pipeline.ucRefs τ sig) (V3 m c) ∗ beside0 m c) ⊢ (call m hX).pre c := by
  show _ ⊢ iprop(StableHlo.held (c.tc : Thread nD τ) (arrs (F := F)) (V3 m c) ∗ (∃ r, prngReg c r)
    ∗ (StableHlo.held (c.tc : Thread nD τ) (others (F := F)) (V3 m c) ∗ emp) ∗ kept m c ∗ ∃ Wd, owes (c : Thread nD τ) (0 + owed0 c) Wd)
  rw [StableHlo.held_sub_split (c.tc : Thread nD τ) (arrs_sub (F := F)) (V3 m c), zero_add]
  unfold beside0
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

theorem call_post (hX : ∀ c, Operand (argOf m) c (blkOf m c)) (c : Dev nD) :
    (call m hX).post c ⊢ iprop(StableHlo.held (c : Thread nD τ) (Pipeline.ucRefs τ sig) (V4 m (outs m) c) ∗ beside1 c) := by
  show iprop(StableHlo.held (c.tc : Thread nD τ) (arrs (F := F)) (V4 m (outs m) c) ∗ (∃ r, prngReg c r)
    ∗ (StableHlo.held (c.tc : Thread nD τ) (others (F := F)) (V4 m (outs m) c) ∗ emp) ∗ semVal (barCell c) 0
    ∗ ∃ Wd, owes (c : Thread nD τ) (0 : CellTallies nD τ sig Unit) Wd) ⊢ _
  rw [StableHlo.held_sub_split (c.tc : Thread nD τ) (arrs_sub (F := F)) (V4 m (outs m) c)]
  unfold beside1
  iintro ⟨Ha, -, ⟨Hr, -⟩, Hb, HO⟩
  isplitl [Ha Hr]; · isplitl [Ha] <;> iassumption
  isplitl [Hb] <;> iassumption

end Cert.KernelIdeal.Ring

end
-- ==== Proof.Ideal.Credits.lean ====
/- What is owed at the launch, added up over the devices: four signals at every barrier, and each
   arrival's amount. -/
module

public import proofs.«01_k».proof.Proof.Ideal.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem sends_nodup : sends.Nodup := by decide +kernel
theorem mem_sends : ∀ x : Xfer, x ∈ sends := by decide +kernel

theorem bar_iff {c d : Dev nD} : barCell c = barCell d ↔ c = d :=
  ⟨fun h => congrArg (fun g : GSem nD τ sig => g.1.1) h, fun h => h ▸ rfl⟩
theorem rcv_iff {c d : Dev nD} {x y : Xfer} : rcvCell c x = rcvCell d y ↔ c = d ∧ x = y := by
  constructor
  · intro h
    have h1 : c = d := congrArg (fun g : GSem nD τ sig => g.1.1) h
    have h2 := congrArg (fun g : GSem nD τ sig => role g.2) h
    simp only [role_rcv, Option.some.injEq, Role.rcv.injEq] at h2
    exact ⟨h1, h2⟩
  · rintro ⟨rfl, rfl⟩; rfl
theorem bar_ne_rcv {c d : Dev nD} {x : Xfer} : barCell c ≠ rcvCell d x := fun h => by
  have h2 := congrArg (fun g : GSem nD τ sig => role g.2) h
  simp only [role_rcv, role_bar, Option.some.injEq] at h2
  cases h2

/-! ### One device's share -/

theorem dues_bar (c d : Dev nD) : ∀ l : List Xfer, dues d l (barCell c) () = 0
  | [] => rfl
  | x :: l => by
    simp only [dues, Pi.add_apply, Finsupp.add_apply]
    rw [dues_bar c d l, tallyAt_apply, if_neg fun e => bar_ne_rcv e.1]

theorem dues_rcv (c d : Dev nD) (x : Xfer) : ∀ l : List Xfer, l.Nodup →
    dues d l (rcvCell c x) () = if x ∈ l ∧ tgt x d = c then amt x else 0
  | [], _ => by rw [if_neg (fun h => List.not_mem_nil h.1)]; rfl
  | y :: l, h => by
    obtain ⟨hy, hl⟩ := List.nodup_cons.mp h
    simp only [dues, Pi.add_apply, Finsupp.add_apply]
    rw [dues_rcv c d x l hl, tallyAt_apply]
    by_cases hxy : x = y
    · subst hxy
      rw [if_neg fun e => hy e.1, Nat.zero_add]
      by_cases ht : tgt x d = c
      · rw [if_pos ⟨rcv_iff.mpr ⟨ht.symm, rfl⟩, rfl⟩, if_pos ⟨List.mem_cons_self .., ht⟩]
      · rw [if_neg fun e => ht (rcv_iff.mp e.1).1.symm, if_neg fun e => ht e.2]
    · rw [if_neg (c := rcvCell c x = rcvCell (tgt y d) y ∧ () = ()) fun e => hxy (rcv_iff.mp e.1).2, Nat.add_zero]
      congr 1
      simp only [List.mem_cons, hxy, false_or]

/-- One of the signals, at a barrier. -/
def one (i : Fin 4) (c d : Dev nD) : ℕ := if d = nbr (opp i) c then 1 else 0
theorem tally_bar (i : Fin 4) (c d : Dev nD) : (tallyAt (barCell (nbr i d)) () 1 : CellTallies nD τ sig Unit) (barCell c) () = one i c d := by
  rw [tallyAt_apply]
  unfold one
  by_cases h : d = nbr (opp i) c
  · rw [if_pos h, if_pos]
    refine ⟨?_, rfl⟩
    rw [h]
    have e := nbr_opp (opp i) c
    rw [opp_opp] at e
    rw [e]
  · rw [if_neg h, if_neg]
    rintro ⟨e, -⟩
    refine h ?_
    rw [bar_iff.mp e, nbr_opp]
theorem tally_bar_rcv (i : Fin 4) (c d : Dev nD) (x : Xfer) : (tallyAt (barCell (nbr i d)) () 1 : CellTallies nD τ sig Unit) (rcvCell c x) () = 0 := by
  rw [tallyAt_apply, if_neg fun e => bar_ne_rcv e.1.symm]

theorem owed_bar (c d : Dev nD) : owed0 d (barCell c) () = one 3 c d + one 2 c d + one 1 c d + one 0 c d := by
  unfold owed0 owed1 owed2 owed3 owed4
  simp only [Pi.add_apply, Finsupp.add_apply, tally_bar, dues_bar, Nat.zero_add]
theorem owed_rcv (c d : Dev nD) (x : Xfer) : owed0 d (rcvCell c x) () = if d = frm x c then amt x else 0 := by
  unfold owed0 owed1 owed2 owed3 owed4
  simp only [Pi.add_apply, Finsupp.add_apply, tally_bar_rcv, dues_rcv _ _ _ _ sends_nodup, Nat.add_zero]
  by_cases h : d = frm x c
  · rw [if_pos h, if_pos ⟨mem_sends x, by rw [h, tgt_frm]⟩]
  · rw [if_neg h, if_neg]
    rintro ⟨-, e⟩
    refine h ?_
    rw [← e, frm_tgt]

/-! ### All of it -/

theorem sum_one (i : Fin 4) (c : Dev nD) : ∑ d : Dev nD, one i c d = 1 := by
  unfold one
  rw [Finset.sum_ite_eq' Finset.univ (nbr (opp i) c) fun _ => 1, if_pos (Finset.mem_univ _)]

theorem launch_bar (c : Dev nD) :
    tallyOn (barCell c) (launchCredit (Pipeline.owing owed0) 0 (barCell c)) = (tallyAt (barCell c) () 4 : CellTallies nD τ sig Unit) := by
  unfold tallyAt
  refine congrArg _ (Finsupp.ext fun u => ?_)
  cases u
  rw [Pipeline.launchCredit_owing, Finsupp.single_eq_same, Finset.sum_congr rfl fun d _ => owed_bar c d, Finset.sum_add_distrib,
    Finset.sum_add_distrib, Finset.sum_add_distrib, sum_one, sum_one, sum_one, sum_one]
theorem launch_rcv (c : Dev nD) (x : Xfer) :
    tallyOn (rcvCell c x) (launchCredit (Pipeline.owing owed0) 0 (rcvCell c x)) = (tallyAt (rcvCell c x) () (amt x) : CellTallies nD τ sig Unit) := by
  unfold tallyAt
  refine congrArg _ (Finsupp.ext fun u => ?_)
  cases u
  rw [Pipeline.launchCredit_owing, Finsupp.single_eq_same, Finset.sum_congr rfl fun d _ => owed_rcv c d x,
    Finset.sum_ite_eq' Finset.univ (frm x c) fun _ => amt x, if_pos (Finset.mem_univ _)]

/-- The semaphores a device is given credit at. -/
def credSem : Unit ⊕ Xfer ↪ SemLoc sig := ⟨Sum.elim (fun _ => .reg barS) fun x => .dma (rcvSem x), fun a b h => by
  have h1 := congrArg role h
  rcases a with ⟨⟩ | x <;> rcases b with ⟨⟩ | y
  · rfl
  · simp only [Sum.elim_inl, Sum.elim_inr, role_bar, role_rcv] at h1
    cases h1
  · simp only [Sum.elim_inl, Sum.elim_inr, role_bar, role_rcv] at h1
    cases h1
  · simp only [Sum.elim_inr, role_rcv, Option.some.injEq, Role.rcv.injEq] at h1
    rw [h1]⟩

theorem creds_of (c : Dev nD) : (Pipeline.launchCred owed0 c : sProp 𝕄) ⊢ iprop(cred (tallyAt (barCell c) () 4) ∗ creds c) := by
  unfold Pipeline.launchCred creds
  refine (bigSep_subset (Finset.subset_univ (Finset.univ.map credSem))).trans ?_
  rw [bigSep_map, bigSep_univ_sum]
  have h1 : (bigSep Finset.univ fun a : Unit => cred (tallyOn ((c : Thread nD τ), credSem (.inl a)) (launchCredit (Pipeline.owing owed0) 0 ((c : Thread nD τ), credSem (.inl a)))) : sProp 𝕄)
      = cred (tallyAt (barCell c) () 4) := by
    rw [show (Finset.univ : Finset Unit) = {()} from rfl, bigSep_singleton]
    exact congrArg _ (launch_bar c)
  have h2 : (bigSep Finset.univ fun x : Xfer => cred (tallyOn ((c : Thread nD τ), credSem (.inr x)) (launchCredit (Pipeline.owing owed0) 0 ((c : Thread nD τ), credSem (.inr x)))) : sProp 𝕄)
      = bigSep Finset.univ fun x : Xfer => cred (tallyAt (rcvCell c x) () (amt x)) :=
    bigSep_congr fun x _ => congrArg _ (launch_rcv c x)
  rw [h1, h2]
  exact BI.Entails.refl _

end Cert.KernelIdeal.Ring

end
-- ==== Proof.Ideal.Launch.lean ====
/- The launch: the exchange's ghost state is made at once, every device is handed its own rights and
   the credit for what it will be sent, and the program runs from there to the all-reduced result. -/
module

public import proofs.«01_k».proof.Proof.Ideal.Credits

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ### The duties made at the launch -/

/-- Four signals at every barrier, and of every transfer the arrival and the departure. -/
def allToks : (Dev nD × Fin 4) ⊕ (Dev nD × Xfer × Bool) ↪ GSem nD τ sig × ℕ × Fin 4 :=
  ⟨Sum.elim (fun p => (barCell p.1, 0, p.2)) fun p => (scCell p, 0, 0), fun a b h => by
    have h1 : role _ = role _ := congrArg (fun g : GSem nD τ sig × ℕ × Fin 4 => role g.1.2) h
    rcases a with ⟨c, i⟩ | p <;> rcases b with ⟨d, j⟩ | q
    · have h2 : c = d := bar_iff.mp (congrArg (fun g : GSem nD τ sig × ℕ × Fin 4 => g.1) h)
      have h3 : i = j := congrArg (fun g : GSem nD τ sig × ℕ × Fin 4 => g.2.2) h
      rw [h2, h3]
    · simp only [Sum.elim_inl, Sum.elim_inr, role_bar, scCell_role, Option.some.injEq] at h1
      split at h1 <;> cases h1
    · simp only [Sum.elim_inl, Sum.elim_inr, role_bar, scCell_role, Option.some.injEq] at h1
      split at h1 <;> cases h1
    · rw [scEmb.injective (congrArg (fun g : GSem nD τ sig × ℕ × Fin 4 => g.1) h)]⟩
def toks : Finset (GSem nD τ sig × ℕ × Fin 4) := Finset.univ.map allToks

theorem disjoint_cells : Disjoint (barCells : Finset (GSem nD τ sig)) scCells := by
  unfold barCells scCells
  rw [Finset.disjoint_left]
  rintro g h₁ h₂
  obtain ⟨c, -, rfl⟩ := Finset.mem_map.mp h₁
  obtain ⟨p, -, h⟩ := Finset.mem_map.mp h₂
  have h1 : role (scCell p).2 = role (barCell c).2 := congrArg (fun g : GSem nD τ sig => role g.2) h
  rw [scCell_role, role_bar] at h1
  split at h1 <;> cases h1

/-- A barrier's duty, seen by the neighbour who pays it. -/
def handed : Dev nD × Fin 4 ≃ Dev nD × Fin 4 where
  toFun p := (nbr p.2 p.1, opp p.2)
  invFun p := (nbr p.2 p.1, opp p.2)
  left_inv p := Prod.ext (nbr_opp p.2 p.1) (opp_opp p.2)
  right_inv p := Prod.ext (nbr_opp p.2 p.1) (opp_opp p.2)
/-- An arrival's duty, seen by the device that sends. -/
def dealt : Dev nD × Xfer × Bool ≃ Dev nD × Xfer × Bool where
  toFun p := (if p.2.2 then tgt p.2.1 p.1 else p.1, p.2)
  invFun p := (if p.2.2 then frm p.2.1 p.1 else p.1, p.2)
  left_inv p := by
    obtain ⟨c, x, b⟩ := p
    cases b
    · rfl
    · exact Prod.ext (frm_tgt x c) rfl
  right_inv p := by
    obtain ⟨c, x, b⟩ := p
    cases b
    · rfl
    · exact Prod.ext (tgt_frm x c) rfl

/-- The four signals a device gives. -/
def pays (c : Dev nD) : sProp 𝕄 := bigSep Finset.univ fun i : Fin 4 => dutyTok ER (barCell (nbr i c)) 0 (opp i)

theorem toks_dealt : bigSep toks (fun x => (dutyTok ER x.1 x.2.1 x.2.2 : sProp 𝕄))
    = iprop((bigSep Finset.univ fun c : Dev nD => pays c) ∗ bigSep Finset.univ fun c : Dev nD => rights c) := by
  unfold toks
  rw [bigSep_map, bigSep_univ_sum]
  have h1 : (bigSep Finset.univ fun p : Dev nD × Fin 4 => dutyTok ER (allToks (.inl p)).1 (allToks (.inl p)).2.1 (allToks (.inl p)).2.2 : sProp 𝕄)
      = bigSep Finset.univ fun c : Dev nD => pays c := by
    rw [bigSep_univ_equiv handed (fun p : Dev nD × Fin 4 => (dutyTok ER (allToks (.inl p)).1 (allToks (.inl p)).2.1 (allToks (.inl p)).2.2 : sProp 𝕄)),
      bigSep_univ_prod]
    rfl
  have h2 : (bigSep Finset.univ fun p : Dev nD × Xfer × Bool => dutyTok ER (allToks (.inr p)).1 (allToks (.inr p)).2.1 (allToks (.inr p)).2.2 : sProp 𝕄)
      = bigSep Finset.univ fun c : Dev nD => rights c := by
    rw [bigSep_univ_equiv dealt (fun p : Dev nD × Xfer × Bool => (dutyTok ER (allToks (.inr p)).1 (allToks (.inr p)).2.1 (allToks (.inr p)).2.2 : sProp 𝕄)),
      bigSep_univ_prod]
    refine bigSep_congr fun c _ => ?_
    unfold rights
    rw [bigSep_univ_prod]
    refine bigSep_congr fun x _ => ?_
    exact bigSep_univ_eq_bigSepL [true, false] (by decide) (by decide) (fun b : Bool =>
      (dutyTok ER (allToks (.inr (dealt (c, x, b)))).1 (allToks (.inr (dealt (c, x, b)))).2.1 (allToks (.inr (dealt (c, x, b)))).2.2 : sProp 𝕄))
  rw [h1, h2]
  rfl

/-! ### The ghost state -/

/-- What the launch makes: the staging cells' state, and the exchange's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The exchange's state, held whole by the first device until it is dealt out. -/
def G (c : Dev nD) : sProp 𝕄 := if c = 0 then BI.own (ER (launchOf barCells scCells toks)) else iprop(emp)
theorem G_all : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

/-- What all devices share: the invariants under their names, and that every barrier stands at its first round. -/
def shared (K : GSem nD τ sig → ℕ) : sProp 𝕄 := iprop(Invs m K ∗ bigSep barCells fun g => reached ER g 0)
instance shared_persistent (K : GSem nD τ sig → ℕ) : BI.Persistent (shared m K) := by unfold shared; infer_instance

theorem reached_bar (c : Dev nD) : (bigSep barCells fun g => (reached ER g 0 : sProp 𝕄)) ⊢ reached ER (barCell c) 0 :=
  bigSep_elim (Finset.mem_map_of_mem barEmb (Finset.mem_univ c))

/-- What is one device's own. -/
def ownGhost (c : Dev nD) : sProp 𝕄 := iprop(atPos ER (barCell c) 0 ∅ 0 ∗ (shutR c ∗ shutS c) ∗ pays c ∗ rights c)
/-- What a device has from the machine: its credit, what it owes, its random state. -/
def machine (c : Dev nD) : sProp 𝕄 :=
  iprop(cred (tallyAt (barCell c) () 4) ∗ creds c ∗ owes (c : Thread nD τ) (owed0 c) ∅ ∗ ∃ r, prngReg c r)

theorem pays_eq (c : Dev nD) : (pays c : sProp 𝕄) = iprop(dutyTok ER (barCell (nbr 0 c)) 0 (opp 0) ∗ dutyTok ER (barCell (nbr 1 c)) 0 (opp 1)
    ∗ dutyTok ER (barCell (nbr 2 c)) 0 (opp 2) ∗ dutyTok ER (barCell (nbr 3 c)) 0 (opp 3)) :=
  bigSep_univ_eq_bigSepL [0, 1, 2, 3] (by decide) (by decide) (fun i : Fin 4 => (dutyTok ER (barCell (nbr i c)) 0 (opp i) : sProp 𝕄))

theorem beside_intro (K : GSem nD τ sig → ℕ) (c : Dev nD) : iprop(shared m K ∗ (ownGhost c ∗ machine c)) ⊢ beside0 m c := by
  unfold shared ownGhost machine beside0 kept gate barTok
  rw [pays_eq]
  iintro ⟨⟨#HI, #HR⟩, ⟨Ha, ⟨HoR, HoS⟩, ⟨H0, H1, H2, H3⟩, Hri⟩, H4, Hc, HO, Hp⟩
  isplitr [Hp HO]
  · isplitr
    · iexists K; iexact HI
    isplitl [Ha H0 H1 H2 H3 H4]
    · isplitl [H0]
      · isplitl [H0]; · iexact H0
        iapply (reached_bar (F := F) (nbr 0 c)); iexact HR
      isplitl [H1]
      · isplitl [H1]; · iexact H1
        iapply (reached_bar (F := F) (nbr 1 c)); iexact HR
      isplitl [H2]
      · isplitl [H2]; · iexact H2
        iapply (reached_bar (F := F) (nbr 2 c)); iexact HR
      isplitl [H3]
      · isplitl [H3]; · iexact H3
        iapply (reached_bar (F := F) (nbr 3 c)); iexact HR
      isplitl [Ha] <;> iassumption
    isplitl [Hri]; · iexact Hri
    isplitl [HoR]; · iexact HoR
    isplitl [HoS] <;> iassumption
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- Of the launch, all but the buffers: it makes what every device carries beside its buffers. -/
theorem prepare :
    iprop((bigSep Finset.univ fun c : Dev nD => iprop(unscopedSems0 c ∗ owes (c : Thread nD τ) (owed0 c) ∅ ∗ Pipeline.launchCred owed0 c
        ∗ prngReg c (ρ c) ∗ G c)) ∗ levAts L lv)
      ⊢ (|={Set.univ}=> bigSep Finset.univ (beside0 m) : sProp 𝕄) := by
  have hcore (c : Dev nD) : iprop(unscopedSems0 c ∗ owes (c : Thread nD τ) (owed0 c) ∅ ∗ Pipeline.launchCred owed0 c ∗ prngReg c (ρ c) ∗ G c)
      ⊢ (iprop(machine c ∗ (semVal (barCell c) 0 ∗ G c)) : sProp 𝕄) := by
    rw [unscopedSems0_eq]
    unfold machine
    iintro ⟨Hv, HO, Hcr, Hp, HG⟩
    ihave Hc := (creds_of (F := F) c) $$ Hcr
    icases Hc with ⟨H4, Hc⟩
    isplitr [Hv HG]
    · isplitl [H4]; · iexact H4
      isplitl [Hc]; · iexact Hc
      isplitl [HO]; · iexact HO
      iexists (ρ c); iexact Hp
    isplitl [Hv] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => iprop(shutR c ∗ shutS c)) :=
    Entails.of_eq (by
      unfold scCells
      rw [bigSep_map, bigSep_univ_prod]
      refine bigSep_congr fun c _ => ?_
      unfold shutR shutS
      rw [bigSep_univ_prod, ← bigSep_sep']
      refine bigSep_congr fun x _ => ?_
      exact bigSep_univ_eq_bigSepL [true, false] (by decide) (by decide) (fun b : Bool => (openTok ER (scCell (c, x, b)) : sProp 𝕄)))
  iintro ⟨H, -⟩
  ihave H' := (show (bigSep Finset.univ fun c : Dev nD => iprop(unscopedSems0 c ∗ owes (c : Thread nD τ) (owed0 c) ∅ ∗ Pipeline.launchCred owed0 c
          ∗ prngReg c (ρ c) ∗ G c))
      ⊢ (bigSep Finset.univ fun c : Dev nD => iprop(machine c ∗ (semVal (barCell c) 0 ∗ G c)) : sProp 𝕄) from bigSep_mono fun c _ => hcore c) $$ H
  ihave H2 := (Entails.of_eq (bigSep_sep' _ _ _)) $$ H'; icases H2 with ⟨HM, H3⟩
  ihave H4 := (Entails.of_eq (bigSep_sep' _ _ _)) $$ H3; icases H4 with ⟨Hv, HG⟩
  ihave Hu := (show bigSep Finset.univ (G (F := F)) ⊢ BI.own (ER (launchOf barCells scCells toks)) from Entails.of_eq (G_all (F := F))) $$ HG
  imod (Rounds.fund_launch ER (Rd (argOf m)) disjoint_cells (fun g _ h => h) toks) $$ [Hv Hu] with ⟨%K, -, #HI, #HR, Hat, Hopen, Htok⟩
  · isplitl [Hv]
    · iapply hv $$ Hv
    · iexact Hu
  imodintro
  iapply (bigSep_with_persistent (R := shared m K) (Φ := fun c => iprop(ownGhost c ∗ machine c)) fun c _ => beside_intro m K c)
  isplitr
  · unfold shared Invs
    isplitr; · iexact HI
    iexact HR
  iapply (Entails.of_eq (bigSep_sep' _ _ _).symm)
  isplitr [HM]
  · unfold ownGhost
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (bigSep_sep' _ _ _).symm)
    iapply (Entails.of_eq (toks_dealt (F := F))) $$ Htok
  · iexact HM

/-! ### The run -/

/-- What a device holds at the end of the program. -/
abbrev atEnd (c : Dev nD) : sProp 𝕄 := iprop(StableHlo.held (c : Thread nD τ) (Pipeline.ucRefs τ sig) (V4 m (outs m) c) ∗ semVal (barCell c) 0)

theorem unscoped_eq : ∀ sm : SemLoc sig, sm.isScoped .tc = false → sm = .reg barS := by decide +kernel

/-- What rides beside the buffers, at the call and after it. -/
def riding (k : Fin 2) (c : Dev nD) : sProp 𝕄 := if k = 0 then beside0 m c else beside1 c

set_option backward.isDefEq.respectTransparency.types false in
/-- Every run ends; at the end each device's argument is as it was, its result is the total, and every semaphore is at zero. -/
theorem run_main (hX : ∀ c, Operand (argOf m) c (blkOf m c)) : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_v17) = total (argOf m)) ∧ r.2.sem = fun _ => 0) := by
  refine Pipeline.θ_run_regions_kit_dev_sems (pcfgs (F := F)) adm (pdats m) () cellOf_inj EP defs₀ 𝒱₀ L lv m ρ main
    (segs m 𝒱₀ L lv (riding m) () (pdats m) (call m hX))
    (fun c Q => by
      rewrite [main_chain c, Seg.run_eq_chain,
        show (segs m 𝒱₀ L lv (riding m) () (pdats m) (call m hX) c).map Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := owed0) (hL := fun g h => if_neg h) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ beside0 m c))
    (Tₙ := atEnd m)
    (hch := fun c => ⟨.rfl, .rfl, .rfl, call_pre m hX c, (call_post m hX c).trans ?_⟩)
    (hinit := ?_)
    (QY := fun c s => (s.mem ((c.tc : Thread nD τ).loc main_arg0) = m ((c.tc : Thread nD τ).loc main_arg0)
        ∧ s.mem ((c.tc : Thread nD τ).loc main_v17) = total (argOf m)) ∧ s.sem (barCell c) = 0)
    (hfin := fun c s' => ?_)
    (hQ := fun s h hs => ⟨fun c => (h c).1, sem_eq_zero hs fun c sm hsm => by
      obtain rfl := unscoped_eq sm hsm
      exact (h c).2⟩)
  · unfold beside1 atEnd
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (owed0 c) ∅ ∗ Pipeline.launchCred owed0 c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed0 c) ∅ ∗ Pipeline.launchCred owed0 c
              ∗ prngReg c (ρ c) ∗ G c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (prepare m ρ) $$ [Hr Hla] with HE
    · isplitl [Hr] <;> iassumption
    imodintro
    rw [bigSep_sep']
    isplitl [Hh]; · iexact Hh
    iexact HE
  · unfold atEnd StableHlo.held
    iintro ⟨⟨Hh, Hb⟩, HSI⟩
    icombine HSI Hb gives %hb
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      refine ⟨⟨?_, ?_⟩, by simpa using hb⟩
      · exact (h (Proc.devRef .tc main_arg0) (Finset.mem_filter.mpr ⟨StableHlo.devRef_mem_tcRefs main_arg0, by decide⟩)).trans
          (V4_main_arg0 m (outs m) c)
      · exact (h (Proc.devRef .tc main_v17) (Finset.mem_filter.mpr ⟨StableHlo.devRef_mem_tcRefs main_v17, by decide⟩)).trans
          ((Function.update_self (f := V3 m c) (Proc.devRef .tc main_v17) _).trans (outs_v17 m c))
    · iexact HSI

end Cert.KernelIdeal.Ring

end
-- ==== Proof.Ideal.Host.lean ====
/- The block each device takes of its shard before the call: the 512 rows of its place on the walk. -/
module

public import proofs.«01_k».proof.Proof.Ideal.Launch
public import Idealize.ShloMosaic.Lib.DynamicIndex
public import Idealize.ShloMosaic.Lib.StableHlo.Run

@[expose] public section

noncomputable section

namespace Cert.KernelIdeal.Ring

open Idealize.ShloMosaic Idealize.ShloMosaic.TcCoe
open Idealize.SL Idealize.SL.Sem
open Idealize.ShloMosaic.ValueIdx
open Idealize.ShloMosaic.StableHlo (after_cons after_nil)
open Cert.KernelIdeal Cert.KernelIdeal.Gen

variable {F : FTy → Type} [FloatOps F]
variable (m : (ℓ : Loc nD τ sig) → Buf (Elt F) ℓ)

/-- The first row of a device's block, as the program computes it. -/
def rowVec (c : Dev nD) : IVec S_ 32 :=
  let x : IVec S_ 32 := Host.remui (Host.divui (constantI S_ 32 (Dev.word c)) (constantI S_ 32 16#32)) (constantI S_ 32 2#32)
  let y : IVec S_ 32 := Host.remui (Host.divui (constantI S_ 32 (Dev.word c)) (constantI S_ 32 4#32)) (constantI S_ 32 4#32)
  let p : IVec S_ 32 := select (cmpi .eq x (constantI S_ 32 0#32)) y (subi (constantI S_ 32 7#32) y)
  let r : IVec S_ 32 := muli p (constantI S_ 32 512#32)
  select (cmpi .slt r (constantI S_ 32 0#32)) (addi r (constantI S_ 32 4096#32)) r

theorem rowVec_at : ∀ c : Dev nD, (rowVec c (Shape.Idx.first h_S_)).toInt = ((512 * (pOf c).val : Nat) : Int) := by decide +kernel

/-- What is computed before the slice is taken. -/
abbrev early (c : Dev nD) : Valuation τ sig (Elt F) := StableHlo.after (hostOps0_2.take 8) (V2 m c)

theorem early_v15 (c : Dev nD) : early m c main_v15 = rowVec c := by
  show StableHlo.after [_, _, _, _, _, _, _, _] (V2 m c) (Proc.devRef .tc main_v15) = _
  after_results
  rfl
theorem early_c_8 (c : Dev nD) : early m c main_c_8 = constantI S_ 32 0#32 := by
  show StableHlo.after [_, _, _, _, _, _, _, _] (V2 m c) (Proc.devRef .tc main_c_8) = _
  after_results
theorem early_arg0 (c : Dev nD) : early m c main_arg0 = argOf m c := by
  show StableHlo.after [_, _, _, _, _, _, _, _] (V2 m c) (Proc.devRef .tc main_arg0) = _
  after_results
  rfl

/-- The block is the slice of the shard from that row on. -/
theorem blk_slice (c : Dev nD) : blkOf m c = Host.dynamicSlice S512x1024 (argOf m c)
    (fun k => ((![rowVec c, constantI S_ 32 0#32] : Fin 2 → IVec S_ 32) k (Shape.Idx.first h_S_)).toInt) sliceFits_S4096x1024_S512x1024 := by
  show StableHlo.after [_, _, _, _, _, _, _, _, _] (V2 m c) (Proc.devRef .tc main_v16) = _
  rw [after_cons, after_cons, after_cons, after_cons, after_cons, after_cons, after_cons, after_cons, after_cons, after_nil,
    StableHlo.unaryIndexed_result]
  show Host.dynamicSlice S512x1024 (early m c main_arg0) _ _ = _
  rw [early_arg0]
  refine congrArg (fun f => Host.dynamicSlice S512x1024 (argOf m c) f sliceFits_S4096x1024_S512x1024) (funext fun k => ?_)
  match k with
  | 0 => exact congrArg (fun v : IVec S_ 32 => (v (Shape.Idx.first h_S_)).toInt) (early_v15 m c)
  | 1 => exact congrArg (fun v : IVec S_ 32 => (v (Shape.Idx.first h_S_)).toInt) (early_c_8 m c)

theorem slices_rows (c : Dev nD) : S4096x1024.Slices ![512 * (pOf c).val, 0] S512x1024 :=
  ⟨rfl, fun a => by
    have h := (pOf c).isLt
    match a with
    | 0 => show 512 * (pOf c).val + 512 ≤ 4096; omega
    | 1 => show 0 + 1024 ≤ 1024; omega⟩

/-- Every device's block is what the exchange takes for its operand. -/
theorem operand (c : Dev nD) : Operand (argOf m) c (blkOf m c) := fun r j h => by
  rw [blk_slice, Host.dynamicSlice_eq_extractStridedSlice S512x1024 (argOf m c) _ ![512 * (pOf c).val, 0] _ (slices_rows c)]
  · refine congrArg (argOf m c) (idx_ext ?_ ?_)
    · rfl
    · show 0 + j.val = j.val; omega
  · rw [Fin.forall_fin_two]
    exact ⟨rowVec_at c, rfl⟩

end Cert.KernelIdeal.Ring

end
-- ==== Proof.Reference.lean ====
/- The reference: its result is, at every place, the sum of the four shards' elements there. -/
module

public import proofs.«01_k».proof.Proof.Gen.ReferenceIdeal
public import Idealize.ShloMosaic.Lib.StableHlo.RunHlo
public import Idealize.ShloMosaic.Lib.Quiescent
public import Idealize.ShloMosaic.Lib.ValueLayout
public import Idealize.ShloMosaic.Lib.Pipeline.Value
public import Idealize.ShloMosaic.Lib.IdealHost
public import Idealize.ShloMosaic.Lib.Pointwise.Reduce
public import Idealize.ShloMosaic.PureOps.Ideal.Laws

@[expose] public section

noncomputable section

namespace Cert.Shards

open Idealize.ShloMosaic Idealize.ShloMosaic.TcCoe Idealize.SL.Sem
open Cert.ReferenceIdeal Cert.ReferenceIdeal.Gen

/-- Where shard `k` of the whole array has the place `i`. -/
def place (k : Fin 4) (i : S4096x1024.Idx) : S16384x1024.Idx :=
  Idealize.ShloMosaic.ValueIdx.ix2 (⟨4096 * k.val + (i 0).val, by have h := (i 0).isLt; change (i 0).val < 4096 at h; omega⟩ : Fin 16384) (i 1 : Fin 1024)

/-- At every place, the sum of the four shards. -/
def sumOf (x : S16384x1024.Idx → EReal) (i : S4096x1024.Idx) : EReal := ∑ k : Fin 4, x (place k i)

/-- What the reference's operations compose to. -/
def composed (x : FVec Ideal S16384x1024 .bf16) : FVec Ideal S4096x1024 .bf16 :=
  truncf .bf16 (Host.reduceAdd (extf .f32 (shapeCast S4x4096x1024 x shapeCasts_S16384x1024_S4x4096x1024) bitsLt_bf16_f32)
    (constant S_ .f32 0x00000000#32) reducesTo_S4x4096x1024_S4096x1024_d0 h_S_) bitsLt_bf16_f32

set_option maxRecDepth 16000 in
theorem composed_eq (x : FVec Ideal S16384x1024 .bf16) (i : S4096x1024.Idx) : composed x i = sumOf x i := by
  unfold composed sumOf
  show Host.reduceAdd (F := Ideal) (φ := .f32) _ _ _ _ i = _
  rw [ValueIdx.hostReduceAdd_apply, Ideal.hostReduceAdd_r3_a0]
  rw [show (constant (F := Ideal) S_ .f32 0x00000000#32 (Shape.Idx.first h_S_) : EReal) = 0 from Ideal.ofBits_zero_f32, zero_add]
  refine Finset.sum_congr rfl fun k _ => ?_
  refine shapeCast_apply x shapeCasts_S16384x1024_S4x4096x1024 _ (place k i) ?_
  rw [Shape.rowMajor_val_two, Shape.rowMajor_val_three]
  show (4096 * k.val + (i 0).val) * 1024 + (i 1).val = (k.val * 4096 + (i 0).val) * 1024 + (i 1).val
  rw [Nat.mul_comm 4096 k.val]

theorem run_ref (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, r.2.mem ((c.tc : Thread nD τ).loc main_v3) = composed (m ((c.tc : Thread nD τ).loc main_arg0))
        ∧ r.2.mem ((c.tc : Thread nD τ).loc main_arg0) = m ((c.tc : Thread nD τ).loc main_arg0)) ∧ r.2.sem = fun _ => 0) := by
  refine θ_run_mono (StableHlo.run_hlo (defs (F := Ideal)) (main (F := Ideal)) (fun d => by hlo_seq) rfl rfl
    (by exact ⟨StableHlo.reshape_bufs_sub .., StableHlo.unary_bufs_sub .., StableHlo.nullary_bufs_sub .., StableHlo.binary_bufs_sub .., StableHlo.unary_bufs_sub ..⟩)
    (by simp only [List.forall_mem_cons, List.not_mem_nil, false_imp_iff, implies_true, and_true]; exact ⟨rfl, rfl, rfl, rfl, rfl⟩) m g) fun r h => ⟨fun c => ⟨(h c main_v3).trans ?_, (h c main_arg0).trans ?_⟩, sem_eq_zero_of_no_sems (by decide) r.2⟩
  · after_results
    rfl
  · after_results

end Cert.Shards

end
-- ==== Proof.Ideal.Equation.lean ====
/- The equation: what the exchange leaves at every place is the sum of the four shards there. -/
module

public import proofs.«01_k».proof.Proof.Ideal.Host
public import proofs.«01_k».proof.Proof.Reference
public import Idealize.ShloMosaic.Lib.Layout
public import Idealize.ShloMosaic.PureOps.Ideal

@[expose] public section

noncomputable section

namespace Cert.KernelIdeal.Ring

open Idealize.ShloMosaic Idealize.ShloMosaic.TcCoe
open Idealize.SL Idealize.SL.Sem
open Cert.KernelIdeal Cert.KernelIdeal.Gen

theorem block_z : ∀ c : Dev nD, Layout.meshLin [2, 4, 4] c.val [2] = (zOf c).val := by decide +kernel
theorem z_prev (d : Dev nD) : zOf (nbr 0 d) = zOf d - 1 := zOf_mk _ _

theorem idx2_ext {i j : Cert.ReferenceIdeal.S16384x1024.Idx} (h0 : (i 0).val = (j 0).val) (h1 : (i 1).val = (j 1).val) : i = j :=
  funext fun a => by
    match a with
    | 0 => exact Fin.ext h0
    | 1 => exact Fin.ext h1

/-- A device's shard of the whole array. -/
def shardOf (x : Cert.ReferenceIdeal.S16384x1024.Idx → EReal) (c : Dev nD) : OutC Ideal :=
  Layout.blockN ⟨2, ![4096, 1024]⟩ ⟨2, ![16384, 1024]⟩ (Layout.meshBlock [2, 4, 4] ![[2], []] c) x

theorem shard_at (x : Cert.ReferenceIdeal.S16384x1024.Idx → EReal) (c : Dev nD) (i : S4096x1024.Idx) :
    shardOf x c i = x (Shards.place (zOf c) i) := by
  refine congrArg x (idx2_ext ?_ ?_)
  · show Layout.meshLin [2, 4, 4] c.val [2] * 4096 + (i 0).val = 4096 * (zOf c).val + (i 0).val
    rw [block_z]; omega
  · show 0 * 1024 + (i 1).val = (i 1).val
    omega

/-- Four numbers on a ring add up the same from wherever one starts. -/
theorem ring_sum (f : Fin 4 → EReal) : ∀ h : Fin 4, f h + (f (h - 1) + (f (h - 1 - 1) + f (h - 1 - 1 - 1))) = ∑ k : Fin 4, f k := by
  intro h
  rw [Fin.sum_univ_four]
  match h with
  | 0 => show f 0 + (f 3 + (f 2 + f 1)) = _; ac_rfl
  | 1 => show f 1 + (f 0 + (f 3 + f 2)) = _; ac_rfl
  | 2 => show f 2 + (f 1 + (f 0 + f 3)) = _; ac_rfl
  | 3 => show f 3 + (f 2 + (f 1 + f 0)) = _; ac_rfl

/-- The all-reduced result of the four shards. -/
theorem total_eq (X : Dev nD → OutC Ideal) (x : Cert.ReferenceIdeal.S16384x1024.Idx → EReal) (h : ∀ c, X c = shardOf x c)
    (i : S4096x1024.Idx) : total X i = Shards.sumOf x i := by
  show X (home i) i + (X (nbr 0 (home i)) i + (X (nbr 0 (nbr 0 (home i))) i + X (nbr 0 (nbr 0 (nbr 0 (home i)))) i)) = _
  rw [h, h, h, h, shard_at, shard_at, shard_at, shard_at]
  simp only [z_prev]
  exact ring_sum (fun k => x (Shards.place k i)) (zOf (home i))

end Cert.KernelIdeal.Ring

end
-- ==== Proof.Float.Run.lean ====
/- The operations of the body, run on what a device holds after the opening. -/
module

public import proofs.«01_k».proof.Proof.Float.Atoms

@[expose] public section

noncomputable section

namespace Cert.Kernel.Ring

open Cert.Kernel Cert.Kernel.Gen

set_option maxRecDepth 100000 in
/-- The operations run from the one to the other. -/
theorem run_ok : ∀ z, ∃ S, run z ops sends (start z) = some ([], S) ∧ S.Perm (finish z) := by
  have h : ∀ z, ((run z ops sends (start z)).any fun r => r.1.isEmpty && r.2.isPerm (finish z)) = true := by decide +kernel
  intro z
  have h := h z
  rcases e : run z ops sends (start z) with _ | ⟨l, S⟩
  · rw [e] at h; exact absurd h (by simp)
  · rw [e] at h
    simp only [Option.any_some, Bool.and_eq_true, List.isEmpty_iff, List.isPerm_iff] at h
    exact ⟨S, by rw [h.1], h.2⟩

end Cert.Kernel.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Ideal.Equation
public import proofs.«01_k».proof.Proof.Float.Host
public import Idealize.ShloMosaic.Adequacy
public import Idealize.ShloMosaic.Init

@[expose] public section

noncomputable section

namespace Cert.Proof

open Idealize.ShloMosaic Idealize.SL.Sem Cert.Kernel

/-- The kernel, in machine floats, runs to the end, its arguments untouched and every semaphore at zero. -/
theorem frame_kernel : Cert.quiescent_Kernel := fun m g _ =>
  θ_run_mono (Cert.Kernel.Ring.run_main m g (Cert.Kernel.Ring.operand m)) fun _ h => ⟨fun c => (h.1 c).1, h.2⟩

/-- The kernel over the reals does the same. -/
theorem frame_ideal : Cert.quiescent_KernelIdeal := fun m g _ =>
  θ_run_mono (Cert.KernelIdeal.Ring.run_main m g (Cert.KernelIdeal.Ring.operand m)) fun _ h => ⟨fun c => (h.1 c).1, h.2⟩

/-- So does the reference. -/
theorem frame_ref : Cert.quiescent_ReferenceIdeal := fun m g _ =>
  θ_run_mono (Cert.Shards.run_ref m g) fun _ h => ⟨fun c => (h.1 c).2, h.2⟩

/-- Over the reals the kernel leaves on every device what the reference computes: the sum of the four shards. -/
theorem equal : Cert.algebraic_KernelIdeal_ReferenceIdeal := fun m g m' g' _ hagree => by
  refine ⟨Cert.Shards.composed (m' (((0 : Dev Cert.ReferenceIdeal.nD).tc : Thread Cert.ReferenceIdeal.nD Cert.ReferenceIdeal.τ).loc Cert.ReferenceIdeal.main_arg0)), ?_, ?_⟩
  · refine θ_run_mono (Cert.KernelIdeal.Ring.run_main m g (Cert.KernelIdeal.Ring.operand m)) fun _ h c => ⟨(h.1 c).2.trans ?_, (h.1 c).1⟩
    funext i
    exact (Cert.KernelIdeal.Ring.total_eq _ _ hagree i).trans (Cert.Shards.composed_eq _ i).symm
  · exact θ_run_mono (Cert.Shards.run_ref m' g') fun _ h => h.1 0

theorem claim : Cert.Claim := ⟨Cert.Kernel.Gen.facts, Cert.KernelIdeal.Gen.facts, Cert.ReferenceIdeal.Gen.facts,
  frame_kernel, frame_ideal, frame_ref, trivial, equal⟩

end Cert.Proof

end
